-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_on_context_rows_pre_finite [hKernelIdeal : Cert.KernelIdeal.Facts] [hReferenceIdeal : Cert.ReferenceIdeal.Facts] [hPre_finite : Cert.Pre_finite.Facts] [hOn_context_rows : Cert.On_context_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v56_0) i = v0 c i)
          ∧ (∀ i : (⟨2, ![32768, 512]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v56_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 512]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v203) i = v0 c i)
          ∧ (∀ i : (⟨2, ![32768, 512]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v205) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v86) = v0 c
          ∧ r.2.mem ((c.tc : Thread Cert.Reference5Ideal.nD Cert.Reference5Ideal.τ).loc Cert.Reference5Ideal.main_v88) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hOn_context_rows : Cert.On_context_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_on_context_rows_pre_finite (hKernelIdeal := hKernelIdeal) (hReferenceIdeal := hReferenceIdeal) (hPre_finite := hPre_finite) (hOn_context_rows := hOn_context_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== On_context_rows.lean ====
abbrev S16x256x1024 : Shape := ⟨3, ![16, 256, 1024]⟩
abbrev S16x2048x1024 : Shape := ⟨3, ![16, 2048, 1024]⟩
abbrev S4x1024x8464 : Shape := ⟨3, ![4, 1024, 8464]⟩
abbrev S4x2x64 : Shape := ⟨3, ![4, 2, 64]⟩
abbrev S4x8 : Shape := ⟨2, ![4, 8]⟩
abbrev S_ : Shape := ⟨0, ![]⟩
abbrev S4096x512 : Shape := ⟨2, ![4096, 512]⟩
abbrev S32768x512 : Shape := ⟨2, ![32768, 512]⟩

class Facts : Prop where
  bcast_S_S4096x512 : S_.BroadcastsInDim S4096x512 (![] : Fin 0 → Fin S4096x512.rank)
  bcast_S_S32768x512 : S_.BroadcastsInDim S32768x512 (![] : Fin 0 → Fin S32768x512.rank)

variable [Facts]

def fn {F : FTy → Type} [FloatOps F] (main_arg0 : FVec F S16x256x1024 .f32) (main_arg1 : FVec F S16x2048x1024 .f32) (main_arg2 : FVec F S4x1024x8464 .f32) (main_arg3 : FVec F S4x2x64 .f32) (main_arg4 : FVec F S4x8 .f32) : IVec S4096x512 1 × IVec S32768x512 1 :=
  let main_c : IVec S_ 1 := constantI S_ 1 1#1
  let main_v0 : IVec S4096x512 1 := broadcastInDim S4096x512 ![] bcast_S_S4096x512 main_c
  let main_c_0 : IVec S_ 1 := constantI S_ 1 0#1
  let main_v1 : IVec S32768x512 1 := broadcastInDim S32768x512 ![] bcast_S_S32768x512 main_c_0
  (main_v0, main_v1)
-- ==== Pre_finite.lean ====
abbrev S16x256x1024 : Shape := ⟨3, ![16, 256, 1024]⟩
abbrev S16x2048x1024 : Shape := ⟨3, ![16, 2048, 1024]⟩
abbrev S4x1024x8464 : Shape := ⟨3, ![4, 1024, 8464]⟩
abbrev S4x2x64 : Shape := ⟨3, ![4, 2, 64]⟩
abbrev S4x8 : Shape := ⟨2, ![4, 8]⟩
abbrev S_ : Shape := ⟨0, ![]⟩
abbrev S1x1024x768 : Shape := ⟨3, ![1, 1024, 768]⟩
abbrev S1024x768 : Shape := ⟨2, ![1024, 768]⟩
abbrev S1x2x64 : Shape := ⟨3, ![1, 2, 64]⟩
abbrev S2x64 : Shape := ⟨2, ![2, 64]⟩
abbrev S1x8 : Shape := ⟨2, ![1, 8]⟩
abbrev S8 : Shape := ⟨1, ![8]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  slices_S4x1024x8464_S1x1024x768_0_0_0 : S4x1024x8464.Slices ![0, 0, 0] S1x1024x768
  shapeCasts_S1x1024x768_S1024x768 : S1x1024x768.ShapeCasts S1024x768
  bcast_S_S1024x768 : S_.BroadcastsInDim S1024x768 (![] : Fin 0 → Fin S1024x768.rank)
  reducesTo_S1024x768_S_d0_1 : S1024x768.ReducesTo [0, 1] S_
  slices_S4x2x64_S1x2x64_0_0_0 : S4x2x64.Slices ![0, 0, 0] S1x2x64
  shapeCasts_S1x2x64_S2x64 : S1x2x64.ShapeCasts S2x64
  bcast_S_S2x64 : S_.BroadcastsInDim S2x64 (![] : Fin 0 → Fin S2x64.rank)
  reducesTo_S2x64_S_d0_1 : S2x64.ReducesTo [0, 1] S_
  slices_S4x8_S1x8_0_0 : S4x8.Slices ![0, 0] S1x8
  shapeCasts_S1x8_S8 : S1x8.ShapeCasts S8
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S4x8 .f32) (main_v17 : IVec S_ 1) : IVec S_ 1 :=
  let main_v18 : FVec F S1x8 .f32 := (extractStridedSlice S1x8 ![0, 0] · slices_S4x8_S1x8_0_0) main_arg4
  let main_v19 : FVec F S8 .f32 := shapeCast S8 main_v18 shapeCasts_S1x8_S8
  let main_v20 : FVec F S8 .f32 := Host.absf main_v19
  let main_cst_4 : FVec F S_ .f32 := constant S_ .f32 0x7F800000#32
  let main_v21 : FVec F S8 .f32 := broadcastInDim S8 ![] bcast_S_S8 main_cst_4
  let main_v22 : IVec S8 1 := cmpf .olt main_v20 main_v21
  let main_c_5 : IVec S_ 1 := constantI S_ 1 1#1
  let main_v23 : IVec S_ 1 := (fun x v => Host.reduce IntOp.andi x v reducesTo_S8_S_d0 h_S_) main_v22 main_c_5
  let main_v24 : IVec S_ 1 := andi main_v17 main_v23
  main_v24

def fn {F : FTy → Type} [FloatOps F] (main_arg0 : FVec F S16x256x1024 .f32) (main_arg1 : FVec F S16x2048x1024 .f32) (main_arg2 : FVec F S4x1024x8464 .f32) (main_arg3 : FVec F S4x2x64 .f32) (main_arg4 : FVec F S4x8 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S1x1024x768 .f32 := (extractStridedSlice S1x1024x768 ![0, 0, 0] · slices_S4x1024x8464_S1x1024x768_0_0_0) main_arg2
  let main_v5 : FVec F S1024x768 .f32 := shapeCast S1024x768 main_v4 shapeCasts_S1x1024x768_S1024x768
  let main_v6 : FVec F S1024x768 .f32 := Host.absf main_v5
  let main_cst_0 : FVec F S_ .f32 := constant S_ .f32 0x7F800000#32
  let main_v7 : FVec F S1024x768 .f32 := broadcastInDim S1024x768 ![] bcast_S_S1024x768 main_cst_0
  let main_v8 : IVec S1024x768 1 := cmpf .olt main_v6 main_v7
  let main_c_1 : IVec S_ 1 := constantI S_ 1 1#1
  let main_v9 : IVec S_ 1 := (fun x v => Host.reduce IntOp.andi x v reducesTo_S1024x768_S_d0_1 h_S_) main_v8 main_c_1
  let main_v10 : IVec S_ 1 := andi main_v3 main_v9
  let main_v11 : FVec F S1x2x64 .f32 := (extractStridedSlice S1x2x64 ![0, 0, 0] · slices_S4x2x64_S1x2x64_0_0_0) main_arg3
  let main_v12 : FVec F S2x64 .f32 := shapeCast S2x64 main_v11 shapeCasts_S1x2x64_S2x64
  let main_v13 : FVec F S2x64 .f32 := Host.absf main_v12
  let main_cst_2 : FVec F S_ .f32 := constant S_ .f32 0x7F800000#32
  let main_v14 : FVec F S2x64 .f32 := broadcastInDim S2x64 ![] bcast_S_S2x64 main_cst_2
  let main_v15 : IVec S2x64 1 := cmpf .olt main_v13 main_v14
  let main_c_3 : IVec S_ 1 := constantI S_ 1 1#1
  let main_v16 : IVec S_ 1 := (fun x v => Host.reduce IntOp.andi x v reducesTo_S2x64_S_d0_1 h_S_) main_v15 main_c_3
  let main_v17 : IVec S_ 1 := andi main_v10 main_v16
  fn_part1 (F := F) main_arg4 main_v17
-- ==== Kernel.lean ====
abbrev S16x256x1024 : Shape := ⟨3, ![16, 256, 1024]⟩
abbrev S16x2048x1024 : Shape := ⟨3, ![16, 2048, 1024]⟩
abbrev S4x1024x8464 : Shape := ⟨3, ![4, 1024, 8464]⟩
abbrev S4x2x64 : Shape := ⟨3, ![4, 2, 64]⟩
abbrev S4x8 : Shape := ⟨2, ![4, 8]⟩
abbrev S128x128 : Shape := ⟨2, ![128, 128]⟩
abbrev S4x1024x768 : Shape := ⟨3, ![4, 1024, 768]⟩
abbrev S4x1x64 : Shape := ⟨3, ![4, 1, 64]⟩
abbrev S1x4x1x1x1x64 : Shape := ⟨6, ![1, 4, 1, 1, 1, 64]⟩
abbrev S1x4x1x1x2x64 : Shape := ⟨6, ![1, 4, 1, 1, 2, 64]⟩
abbrev S4x1x128 : Shape := ⟨3, ![4, 1, 128]⟩
abbrev S_ : Shape := ⟨0, ![]⟩
abbrev S4x8x1 : Shape := ⟨3, ![4, 8, 1]⟩
abbrev S4x8x128 : Shape := ⟨3, ![4, 8, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S32768x1024 : Shape := ⟨2, ![32768, 1024]⟩
abbrev S4096x1024 : Shape := ⟨2, ![4096, 1024]⟩
abbrev S4096x512 : Shape := ⟨2, ![4096, 512]⟩
abbrev S32768x512 : Shape := ⟨2, ![32768, 512]⟩
abbrev S256x1024 : Shape := ⟨2, ![256, 1024]⟩
abbrev S2048x1024 : Shape := ⟨2, ![2048, 1024]⟩
abbrev S1x1024x768 : Shape := ⟨3, ![1, 1024, 768]⟩
abbrev S1x1x128 : Shape := ⟨3, ![1, 1, 128]⟩
abbrev S1x8x128 : Shape := ⟨3, ![1, 8, 128]⟩
abbrev S256x512 : Shape := ⟨2, ![256, 512]⟩
abbrev S2048x512 : Shape := ⟨2, ![2048, 512]⟩
abbrev S4x2304x128 : Shape := ⟨3, ![4, 2304, 128]⟩
abbrev S4x256x128 : Shape := ⟨3, ![4, 256, 128]⟩
abbrev S256x128 : Shape := ⟨2, ![256, 128]⟩
abbrev S1x1024x256 : Shape := ⟨3, ![1, 1024, 256]⟩
abbrev S1024x256 : Shape := ⟨2, ![1024, 256]⟩
abbrev S256x256 : Shape := ⟨2, ![256, 256]⟩
abbrev S1x128 : Shape := ⟨2, ![1, 128]⟩
abbrev S1x256x128 : Shape := ⟨3, ![1, 256, 128]⟩
abbrev S1x128x128 : Shape := ⟨3, ![1, 128, 128]⟩
abbrev S1x1024x512 : Shape := ⟨3, ![1, 1024, 512]⟩
abbrev S1024x512 : Shape := ⟨2, ![1024, 512]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩

abbrev nBuf : Space → Nat
  | .hbm => 69
  | .vmem => 19
  | .smem => 0
  | _ => 0

abbrev bufTy : (tb : Table) → Fin (tcTables nBuf tb) → BufTy
  | .hbm, ⟨0, _⟩ => ⟨S16x256x1024, .f32⟩
  | .hbm, ⟨1, _⟩ => ⟨S16x2048x1024, .f32⟩
  | .hbm, ⟨2, _⟩ => ⟨S4x1024x8464, .f32⟩
  | .hbm, ⟨3, _⟩ => ⟨S4x2x64, .f32⟩
  | .hbm, ⟨4, _⟩ => ⟨S4x8, .f32⟩
  | .hbm, ⟨5, _⟩ => ⟨S128x128, .bf16⟩
  | .hbm, ⟨6, _⟩ => ⟨S4x1024x768, .f32⟩
  | .hbm, ⟨7, _⟩ => ⟨S4x1024x768, .bf16⟩
  | .hbm, ⟨8, _⟩ => ⟨S4x1x64, .f32⟩
  | .hbm, ⟨9, _⟩ => ⟨S1x4x1x1x1x64, .f32⟩
  | .hbm, ⟨10, _⟩ => ⟨S1x4x1x1x2x64, .f32⟩
  | .hbm, ⟨11, _⟩ => ⟨S4x1x128, .f32⟩
  | .hbm, ⟨12, _⟩ => ⟨S_, .f32⟩
  | .hbm, ⟨13, _⟩ => ⟨S4x1x128, .f32⟩
  | .hbm, ⟨14, _⟩ => ⟨S4x1x128, .f32⟩
  | .hbm, ⟨15, _⟩ => ⟨S4x1x64, .f32⟩
  | .hbm, ⟨16, _⟩ => ⟨S1x4x1x1x1x64, .f32⟩
  | .hbm, ⟨17, _⟩ => ⟨S1x4x1x1x2x64, .f32⟩
  | .hbm, ⟨18, _⟩ => ⟨S4x1x128, .f32⟩
  | .hbm, ⟨19, _⟩ => ⟨S4x8x1, .f32⟩
  | .hbm, ⟨20, _⟩ => ⟨S4x8x128, .f32⟩
  | .hbm, ⟨21, _⟩ => ⟨S32, .f32⟩
  | .hbm, ⟨22, _⟩ => ⟨S32x64, .f32⟩
  | .hbm, ⟨23, _⟩ => ⟨S2048, .f32⟩
  | .hbm, ⟨24, _⟩ => ⟨S64, .f32⟩
  | .hbm, ⟨25, _⟩ => ⟨S1x64, .f32⟩
  | .hbm, ⟨26, _⟩ => ⟨S32x64, .f32⟩
  | .hbm, ⟨27, _⟩ => ⟨S2048, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x1, .f32⟩
  | .hbm, ⟨48, _⟩ => ⟨S1x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S1x2048x1x32, .f32⟩
  | .hbm, ⟨56, _⟩ => ⟨S1x2048x4x32, .f32⟩
  | .hbm, ⟨57, _⟩ => ⟨S2048x128, .f32⟩
  | .hbm, ⟨58, _⟩ => ⟨S2048x32, .f32⟩
  | .hbm, ⟨59, _⟩ => ⟨S2048x64, .f32⟩
  | .hbm, ⟨60, _⟩ => ⟨S1x2048x1x64, .f32⟩
  | .hbm, ⟨61, _⟩ => ⟨S1x2048x2x64, .f32⟩
  | .hbm, ⟨62, _⟩ => ⟨S2048x128, .f32⟩
  | .hbm, ⟨63, _⟩ => ⟨S32768x1024, .f32⟩
  | .hbm, ⟨64, _⟩ => ⟨S32768x1024, .bf16⟩
  | .hbm, ⟨65, _⟩ => ⟨S4096x1024, .f32⟩
  | .hbm, ⟨66, _⟩ => ⟨S4096x1024, .bf16⟩
  | .hbm, ⟨67, _⟩ => ⟨S4096x512, .bf16⟩
  | .hbm, ⟨68, _⟩ => ⟨S32768x512, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x768, .bf16⟩
  | .local _ .vmem, ⟨5, _⟩ => ⟨S1x1x128, .f32⟩
  | .local _ .vmem, ⟨6, _⟩ => ⟨S1x1x128, .f32⟩
  | .local _ .vmem, ⟨7, _⟩ => ⟨S1x8x128, .f32⟩
  | .local _ .vmem, ⟨8, _⟩ => ⟨S2048x128, .f32⟩
  | .local _ .vmem, ⟨9, _⟩ => ⟨S2048x128, .f32⟩
  | .local _ .vmem, ⟨10, _⟩ => ⟨S128x128, .bf16⟩
  | .local _ .vmem, ⟨11, _⟩ => ⟨S256x512, .bf16⟩
  | .local _ .vmem, ⟨12, _⟩ => ⟨S256x512, .bf16⟩
  | .local _ .vmem, ⟨13, _⟩ => ⟨S2048x512, .bf16⟩
  | .local _ .vmem, ⟨14, _⟩ => ⟨S2048x512, .bf16⟩
  | .local _ .vmem, ⟨15, _⟩ => ⟨S4x2304x128, .bf16⟩
  | .local _ .vmem, ⟨16, _⟩ => ⟨S4x2304x128, .bf16⟩
  | .local _ .vmem, ⟨17, _⟩ => ⟨S4x256x128, .bf16⟩
  | .local _ .vmem, ⟨18, _⟩ => ⟨S4x256x128, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56_0 : Ref sig .tc := ⟨.hbm, 67, rfl⟩
abbrev main_v56_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v124 : BitVec 32 := Scalar.addi c0_i32 c8_i32
  let c1_i32 : BitVec 32 := 1#32
  ⟨c0_i32, v124, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  v486
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  let v487 : BitVec 32 := v486
  let v488 : Index := Scalar.indexCast v487
  let c0_239 : Index := 0#32
  ![v488.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  let v487 : BitVec 32 := v486
  let v491 : Index := Scalar.indexCast v487
  let c0_240 : Index := 0#32
  ![v491.toNat, 0]
def k0_off3 (k0_t1 : Fin k0_t1_loop.trips) : Fin 3 → Nat :=
  let c0_260 : Index := 0#32
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  let v487 : BitVec 32 := v486
  let c128_i32 : BitVec 32 := 128#32
  let v547 : BitVec 32 := Scalar.addi v487 c128_i32
  let v548 : Index := Scalar.indexCast v547
  let c0_261 : Index := 0#32
  ![0, v548.toNat, 0]
def k0_off4 (k0_t1 : Fin k0_t1_loop.trips) : Fin 3 → Nat :=
  let c1_266 : Index := 1#32
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  let v487 : BitVec 32 := v486
  let c128_i32_265 : BitVec 32 := 128#32
  let v559 : BitVec 32 := Scalar.addi v487 c128_i32_265
  let v560 : Index := Scalar.indexCast v559
  let c0_267 : Index := 0#32
  ![1, v560.toNat, 0]
def k0_off5 (k0_t1 : Fin k0_t1_loop.trips) : Fin 3 → Nat :=
  let c2_272 : Index := 2#32
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  let v487 : BitVec 32 := v486
  let c128_i32_271 : BitVec 32 := 128#32
  let v571 : BitVec 32 := Scalar.addi v487 c128_i32_271
  let v572 : Index := Scalar.indexCast v571
  let c0_273 : Index := 0#32
  ![2, v572.toNat, 0]
def k0_off6 (k0_t1 : Fin k0_t1_loop.trips) : Fin 3 → Nat :=
  let c3_278 : Index := 3#32
  let c0_i32 : BitVec 32 := 0#32
  let c1_i32 : BitVec 32 := 1#32
  let arg16 : BitVec 32 := Scf.iv c0_i32 c1_i32 k0_t1
  let c256_i32_238 : BitVec 32 := 256#32
  let v486 : BitVec 32 := Scalar.muli arg16 c256_i32_238
  let v487 : BitVec 32 := v486
  let c128_i32_277 : BitVec 32 := 128#32
  let v583 : BitVec 32 := Scalar.addi v487 c128_i32_277
  let v584 : Index := Scalar.indexCast v583
  let c0_279 : Index := 0#32
  ![3, v584.toNat, 0]
@[reducible] def k0_t2_loop : Scf.Loop 32 :=
  let c0_i32_234 : BitVec 32 := 0#32
  let c8_i32_235 : BitVec 32 := 8#32
  let v485 : BitVec 32 := Scalar.addi c0_i32_234 c8_i32_235
  let c1_i32_236 : BitVec 32 := 1#32
  ⟨c0_i32_234, v485, c1_i32_236⟩
def k0_mult2 (k0_t2 : Fin k0_t2_loop.trips) : BitVec 32 :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  v486
def k0_off7 (k0_t2 : Fin k0_t2_loop.trips) : Fin 2 → Nat :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v496 : Index := Scalar.indexCast v487
  let c0_239 : Index := 0#32
  ![v496.toNat, 0]
def k0_off8 (k0_t2 : Fin k0_t2_loop.trips) : Fin 2 → Nat :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v499 : Index := Scalar.indexCast v487
  let c0_240 : Index := 0#32
  ![v499.toNat, 0]
def k0_off9 (k0_t2 : Fin k0_t2_loop.trips) : Fin 3 → Nat :=
  let c0_301 : Index := 0#32
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v638 : Index := Scalar.indexCast v487
  let c0_302 : Index := 0#32
  ![0, v638.toNat, 0]
def k0_off10 (k0_t2 : Fin k0_t2_loop.trips) : Fin 3 → Nat :=
  let c1_305 : Index := 1#32
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v644 : Index := Scalar.indexCast v487
  let c0_306 : Index := 0#32
  ![1, v644.toNat, 0]
def k0_off11 (k0_t2 : Fin k0_t2_loop.trips) : Fin 2 → Nat :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v756 : Index := Scalar.indexCast v487
  let c0_329 : Index := 0#32
  ![v756.toNat, 0]
def k0_off12 (k0_t2 : Fin k0_t2_loop.trips) : Fin 2 → Nat :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v886 : Index := Scalar.indexCast v487
  let c128_372 : Index := 128#32
  ![v886.toNat, 128]
def k0_off13 (k0_t2 : Fin k0_t2_loop.trips) : Fin 3 → Nat :=
  let c2_387 : Index := 2#32
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v898 : Index := Scalar.indexCast v487
  let c0_388 : Index := 0#32
  ![2, v898.toNat, 0]
def k0_off14 (k0_t2 : Fin k0_t2_loop.trips) : Fin 3 → Nat :=
  let c3_391 : Index := 3#32
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v904 : Index := Scalar.indexCast v487
  let c0_392 : Index := 0#32
  ![3, v904.toNat, 0]
def k0_off15 (k0_t2 : Fin k0_t2_loop.trips) : Fin 2 → Nat :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v1016 : Index := Scalar.indexCast v487
  let c256_415 : Index := 256#32
  ![v1016.toNat, 256]
def k0_off16 (k0_t2 : Fin k0_t2_loop.trips) : Fin 2 → Nat :=
  let c0_i32_234 : BitVec 32 := 0#32
  let c1_i32_236 : BitVec 32 := 1#32
  let arg16 : BitVec 32 := Scf.iv c0_i32_234 c1_i32_236 k0_t2
  let c256_i32_238 : BitVec 32 := 256#32
  let v486 : BitVec 32 := Scalar.muli arg16 c256_i32_238
  let v487 : BitVec 32 := v486
  let v1146 : Index := Scalar.indexCast v487
  let c384_458 : Index := 384#32
  ![v1146.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x256x1024 : Shape := ⟨3, ![16, 256, 1024]⟩
abbrev S16x2048x1024 : Shape := ⟨3, ![16, 2048, 1024]⟩
abbrev S4x1024x8464 : Shape := ⟨3, ![4, 1024, 8464]⟩
abbrev S4x2x64 : Shape := ⟨3, ![4, 2, 64]⟩
abbrev S4x8 : Shape := ⟨2, ![4, 8]⟩
abbrev S1x1024x8464 : Shape := ⟨3, ![1, 1024, 8464]⟩
abbrev S1024x8464 : Shape := ⟨2, ![1024, 8464]⟩
abbrev S1x2x64 : Shape := ⟨3, ![1, 2, 64]⟩
abbrev S2x64 : Shape := ⟨2, ![2, 64]⟩
abbrev S1x8 : Shape := ⟨2, ![1, 8]⟩
abbrev S8 : Shape := ⟨1, ![8]⟩
abbrev S16x256x8464 : Shape := ⟨3, ![16, 256, 8464]⟩
abbrev S16x256x512 : Shape := ⟨3, ![16, 256, 512]⟩
abbrev S16x256x8x64 : Shape := ⟨4, ![16, 256, 8, 64]⟩
abbrev S16x256x128 : Shape := ⟨3, ![16, 256, 128]⟩
abbrev S16x256x2x64 : Shape := ⟨4, ![16, 256, 2, 64]⟩
abbrev S1x64 : Shape := ⟨2, ![1, 64]⟩
abbrev S64 : Shape := ⟨1, ![64]⟩
abbrev S_ : Shape := ⟨0, ![]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x256x2 : Shape := ⟨3, ![16, 256, 2]⟩
abbrev S16x256x2x1 : Shape := ⟨4, ![16, 256, 2, 1]⟩
abbrev S16x2048x8464 : Shape := ⟨3, ![16, 2048, 8464]⟩
abbrev S16x2048x512 : Shape := ⟨3, ![16, 2048, 512]⟩
abbrev S16x2048x8x64 : Shape := ⟨4, ![16, 2048, 8, 64]⟩
abbrev S16x2048x128 : Shape := ⟨3, ![16, 2048, 128]⟩
abbrev S16x2048x2x64 : Shape := ⟨4, ![16, 2048, 2, 64]⟩
abbrev S16x2048x8 : Shape := ⟨3, ![16, 2048, 8]⟩
abbrev S16x2048x8x1 : Shape := ⟨4, ![16, 2048, 8, 1]⟩
abbrev S16x2048x2 : Shape := ⟨3, ![16, 2048, 2]⟩
abbrev S16x2048x2x1 : Shape := ⟨4, ![16, 2048, 2, 1]⟩
abbrev S32 : Shape := ⟨1, ![32]⟩
abbrev S32x64 : Shape := ⟨2, ![32, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16x2048x8x32 : Shape := ⟨4, ![16, 2048, 8, 32]⟩
abbrev S1x2048x1x32 : Shape := ⟨4, ![1, 2048, 1, 32]⟩
abbrev S16x2048x2x32 : Shape := ⟨4, ![16, 2048, 2, 32]⟩
abbrev S16x2048x2x4x64 : Shape := ⟨5, ![16, 2048, 2, 4, 64]⟩
abbrev S16x2x2048x2048x4 : Shape := ⟨5, ![16, 2, 2048, 2048, 4]⟩
abbrev S16x2x4x2048x2048 : Shape := ⟨5, ![16, 2, 4, 2048, 2048]⟩
abbrev S1x2048 : Shape := ⟨2, ![1, 2048]⟩
abbrev S2048x2048 : Shape := ⟨2, ![2048, 2048]⟩
abbrev S16x2x256x2048x4 : Shape := ⟨5, ![16, 2, 256, 2048, 4]⟩
abbrev S16x2x4x2048x256 : Shape := ⟨5, ![16, 2, 4, 2048, 256]⟩
abbrev S1x2x4x1x1 : Shape := ⟨5, ![1, 2, 4, 1, 1]⟩
abbrev S16x2x4x2048x1 : Shape := ⟨5, ![16, 2, 4, 2048, 1]⟩
abbrev S16x2x4x2048x2305 : Shape := ⟨5, ![16, 2, 4, 2048, 2305]⟩
abbrev S16x2x4x2048 : Shape := ⟨4, ![16, 2, 4, 2048]⟩
abbrev S16x2x64x4x2048 : Shape := ⟨5, ![16, 2, 64, 4, 2048]⟩
abbrev S16x256x2x4x64 : Shape := ⟨5, ![16, 256, 2, 4, 64]⟩
abbrev S16x2x256x256x4 : Shape := ⟨5, ![16, 2, 256, 256, 4]⟩
abbrev S16x2x4x256x256 : Shape := ⟨5, ![16, 2, 4, 256, 256]⟩
abbrev S16x2x4x256x1 : Shape := ⟨5, ![16, 2, 4, 256, 1]⟩
abbrev S16x2x4x256x257 : Shape := ⟨5, ![16, 2, 4, 256, 257]⟩
abbrev S16x2x4x256 : Shape := ⟨4, ![16, 2, 4, 256]⟩
abbrev S16x2x64x4x256 : Shape := ⟨5, ![16, 2, 64, 4, 256]⟩
abbrev S4096x512 : Shape := ⟨2, ![4096, 512]⟩
abbrev S32768x512 : Shape := ⟨2, ![32768, 512]⟩

abbrev nBuf : Space → Nat
  | .hbm => 241
  | .vmem => 0
  | .smem => 0
  | _ => 0

abbrev hbmTy0_0 (i : Nat) : BufTy := match i % 128 with
  | 0 => ⟨S16x256x1024, .f32⟩
  | 1 => ⟨S16x2048x1024, .f32⟩
  | 2 => ⟨S4x1024x8464, .f32⟩
  | 3 => ⟨S4x2x64, .f32⟩
  | 4 => ⟨S4x8, .f32⟩
  | 5 => ⟨S1x1024x8464, .f32⟩
  | 6 => ⟨S1024x8464, .f32⟩
  | 7 => ⟨S1x2x64, .f32⟩
  | 8 => ⟨S2x64, .f32⟩
  | 9 => ⟨S1x8, .f32⟩
  | 10 => ⟨S8, .f32⟩
  | 11 => ⟨S16x256x8464, .f32⟩
  | 12 => ⟨S16x256x512, .f32⟩
  | 13 => ⟨S16x256x8x64, .f32⟩
  | 14 => ⟨S16x256x128, .f32⟩
  | 15 => ⟨S16x256x2x64, .f32⟩
  | 16 => ⟨S16x256x128, .f32⟩
  | 17 => ⟨S16x256x2x64, .f32⟩
  | 18 => ⟨S1x64, .f32⟩
  | 19 => ⟨S64, .f32⟩
  | 20 => ⟨S16x256x8x64, .f32⟩
  | 21 => ⟨S_, .f32⟩
  | 22 => ⟨S16x256x8, .f32⟩
  | 23 => ⟨S16x256x8x1, .f32⟩
  | 24 => ⟨S_, .f32⟩
  | 25 => ⟨S16x256x8x1, .f32⟩
  | 26 => ⟨S16x256x8x1, .f32⟩
  | 27 => ⟨S_, .f32⟩
  | 28 => ⟨S16x256x8x1, .f32⟩
  | 29 => ⟨S16x256x8x1, .f32⟩
  | 30 => ⟨S16x256x8x1, .f32⟩
  | 31 => ⟨S16x256x8x64, .f32⟩
  | 32 => ⟨S16x256x8x64, .f32⟩
  | 33 => ⟨S1x1x1x64, .f32⟩
  | 34 => ⟨S16x256x8x64, .f32⟩
  | 35 => ⟨S16x256x8x64, .f32⟩
  | 36 => ⟨S1x64, .f32⟩
  | 37 => ⟨S64, .f32⟩
  | 38 => ⟨S16x256x2x64, .f32⟩
  | 39 => ⟨S_, .f32⟩
  | 40 => ⟨S16x256x2, .f32⟩
  | 41 => ⟨S16x256x2x1, .f32⟩
  | 42 => ⟨S_, .f32⟩
  | 43 => ⟨S16x256x2x1, .f32⟩
  | 44 => ⟨S16x256x2x1, .f32⟩
  | 45 => ⟨S_, .f32⟩
  | 46 => ⟨S16x256x2x1, .f32⟩
  | 47 => ⟨S16x256x2x1, .f32⟩
  | 48 => ⟨S16x256x2x1, .f32⟩
  | 49 => ⟨S16x256x2x64, .f32⟩
  | 50 => ⟨S16x256x2x64, .f32⟩
  | 51 => ⟨S1x1x1x64, .f32⟩
  | 52 => ⟨S16x256x2x64, .f32⟩
  | 53 => ⟨S16x256x2x64, .f32⟩
  | 54 => ⟨S16x2048x8464, .f32⟩
  | 55 => ⟨S16x2048x512, .f32⟩
  | 56 => ⟨S16x2048x8x64, .f32⟩
  | 57 => ⟨S16x2048x128, .f32⟩
  | 58 => ⟨S16x2048x2x64, .f32⟩
  | 59 => ⟨S16x2048x128, .f32⟩
  | 60 => ⟨S16x2048x2x64, .f32⟩
  | 61 => ⟨S1x64, .f32⟩
  | 62 => ⟨S64, .f32⟩
  | 63 => ⟨S16x2048x8x64, .f32⟩
  | 64 => ⟨S_, .f32⟩
  | 65 => ⟨S16x2048x8, .f32⟩
  | 66 => ⟨S16x2048x8x1, .f32⟩
  | 67 => ⟨S_, .f32⟩
  | 68 => ⟨S16x2048x8x1, .f32⟩
  | 69 => ⟨S16x2048x8x1, .f32⟩
  | 70 => ⟨S_, .f32⟩
  | 71 => ⟨S16x2048x8x1, .f32⟩
  | 72 => ⟨S16x2048x8x1, .f32⟩
  | 73 => ⟨S16x2048x8x1, .f32⟩
  | 74 => ⟨S16x2048x8x64, .f32⟩
  | 75 => ⟨S16x2048x8x64, .f32⟩
  | 76 => ⟨S1x1x1x64, .f32⟩
  | 77 => ⟨S16x2048x8x64, .f32⟩
  | 78 => ⟨S16x2048x8x64, .f32⟩
  | 79 => ⟨S1x64, .f32⟩
  | 80 => ⟨S64, .f32⟩
  | 81 => ⟨S16x2048x2x64, .f32⟩
  | 82 => ⟨S_, .f32⟩
  | 83 => ⟨S16x2048x2, .f32⟩
  | 84 => ⟨S16x2048x2x1, .f32⟩
  | 85 => ⟨S_, .f32⟩
  | 86 => ⟨S16x2048x2x1, .f32⟩
  | 87 => ⟨S16x2048x2x1, .f32⟩
  | 88 => ⟨S_, .f32⟩
  | 89 => ⟨S16x2048x2x1, .f32⟩
  | 90 => ⟨S16x2048x2x1, .f32⟩
  | 91 => ⟨S16x2048x2x1, .f32⟩
  | 92 => ⟨S16x2048x2x64, .f32⟩
  | 93 => ⟨S16x2048x2x64, .f32⟩
  | 94 => ⟨S1x1x1x64, .f32⟩
  | 95 => ⟨S16x2048x2x64, .f32⟩
  | 96 => ⟨S16x2048x2x64, .f32⟩
  | 97 => ⟨S32, .f32⟩
  | 98 => ⟨S32x64, .f32⟩
  | 99 => ⟨S2048, .f32⟩
  | 100 => ⟨S64, .f32⟩
  | 101 => ⟨S1x64, .f32⟩
  | 102 => ⟨S32x64, .f32⟩
  | 103 => ⟨S2048, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S2048x1, .f32⟩
  | 119 => ⟨S1x16, .f32⟩
  | 120 => ⟨S2048x16, .f32⟩
  | 121 => ⟨S2048x16, .f32⟩
  | 122 => ⟨S2048x16, .f32⟩
  | 123 => ⟨S2048x1, .f32⟩
  | 124 => ⟨S1x16, .f32⟩
  | 125 => ⟨S2048x16, .f32⟩
  | 126 => ⟨S2048x16, .f32⟩
  | 127 => ⟨S2048x16, .f32⟩
  | _ => ⟨S16x256x1024, .f32⟩

abbrev hbmTy0_1 (i : Nat) : BufTy := match i % 128 with
  | 0 => ⟨S2048x32, .f32⟩
  | 1 => ⟨S2048x32, .f32⟩
  | 2 => ⟨S2048x32, .f32⟩
  | 3 => ⟨S16x2048x8x32, .f32⟩
  | 4 => ⟨S16x2048x8x32, .f32⟩
  | 5 => ⟨S1x2048x1x32, .f32⟩
  | 6 => ⟨S1x2048x1x32, .f32⟩
  | 7 => ⟨S16x2048x8x32, .f32⟩
  | 8 => ⟨S16x2048x8x32, .f32⟩
  | 9 => ⟨S16x2048x8x32, .f32⟩
  | 10 => ⟨S16x2048x8x32, .f32⟩
  | 11 => ⟨S16x2048x8x32, .f32⟩
  | 12 => ⟨S16x2048x8x32, .f32⟩
  | 13 => ⟨S16x2048x8x32, .f32⟩
  | 14 => ⟨S16x2048x8x32, .f32⟩
  | 15 => ⟨S16x2048x8x32, .f32⟩
  | 16 => ⟨S16x2048x8x32, .f32⟩
  | 17 => ⟨S16x2048x8x64, .f32⟩
  | 18 => ⟨S16x2048x2x32, .f32⟩
  | 19 => ⟨S16x2048x2x32, .f32⟩
  | 20 => ⟨S1x2048x1x32, .f32⟩
  | 21 => ⟨S1x2048x1x32, .f32⟩
  | 22 => ⟨S16x2048x2x32, .f32⟩
  | 23 => ⟨S16x2048x2x32, .f32⟩
  | 24 => ⟨S16x2048x2x32, .f32⟩
  | 25 => ⟨S16x2048x2x32, .f32⟩
  | 26 => ⟨S16x2048x2x32, .f32⟩
  | 27 => ⟨S16x2048x2x32, .f32⟩
  | 28 => ⟨S16x2048x2x32, .f32⟩
  | 29 => ⟨S16x2048x2x32, .f32⟩
  | 30 => ⟨S16x2048x2x32, .f32⟩
  | 31 => ⟨S16x2048x2x32, .f32⟩
  | 32 => ⟨S16x2048x2x64, .f32⟩
  | 33 => ⟨S16x2048x2x4x64, .f32⟩
  | 34 => ⟨S16x2x2048x2048x4, .f32⟩
  | 35 => ⟨S16x2x4x2048x2048, .f32⟩
  | 36 => ⟨S_, .f32⟩
  | 37 => ⟨S16x2x4x2048x2048, .f32⟩
  | 38 => ⟨S16x2x4x2048x2048, .f32⟩
  | 39 => ⟨S2048, .i32⟩
  | 40 => ⟨S2048x1, .i32⟩
  | 41 => ⟨S1x2048, .i32⟩
  | 42 => ⟨S2048x2048, .i32⟩
  | 43 => ⟨S2048x2048, .i32⟩
  | 44 => ⟨S2048x2048, .i32⟩
  | 45 => ⟨S2048x2048, .i32⟩
  | 46 => ⟨S_, .i32⟩
  | 47 => ⟨S2048x2048, .i32⟩
  | 48 => ⟨S2048x2048, .i1⟩
  | 49 => ⟨S_, .f32⟩
  | 50 => ⟨S_, .f32⟩
  | 51 => ⟨S16x2x4x2048x2048, .i1⟩
  | 52 => ⟨S16x2x4x2048x2048, .f32⟩
  | 53 => ⟨S16x2x4x2048x2048, .f32⟩
  | 54 => ⟨S16x2x256x2048x4, .f32⟩
  | 55 => ⟨S16x2x4x2048x256, .f32⟩
  | 56 => ⟨S_, .f32⟩
  | 57 => ⟨S16x2x4x2048x256, .f32⟩
  | 58 => ⟨S16x2x4x2048x256, .f32⟩
  | 59 => ⟨S1x2x4x1x1, .f32⟩
  | 60 => ⟨S16x2x4x2048x1, .f32⟩
  | 61 => ⟨S16x2x4x2048x2305, .f32⟩
  | 62 => ⟨S_, .f32⟩
  | 63 => ⟨S16x2x4x2048, .f32⟩
  | 64 => ⟨S_, .f32⟩
  | 65 => ⟨S16x2x4x2048, .f32⟩
  | 66 => ⟨S16x2x4x2048, .f32⟩
  | 67 => ⟨S16x2x4x2048x1, .f32⟩
  | 68 => ⟨S16x2x4x2048x2305, .f32⟩
  | 69 => ⟨S16x2x4x2048x2305, .f32⟩
  | 70 => ⟨S16x2x4x2048x2305, .f32⟩
  | 71 => ⟨S_, .f32⟩
  | 72 => ⟨S16x2x4x2048, .f32⟩
  | 73 => ⟨S16x2x4x2048x1, .f32⟩
  | 74 => ⟨S16x2x4x2048x2305, .f32⟩
  | 75 => ⟨S16x2x4x2048x2305, .f32⟩
  | 76 => ⟨S16x2x4x2048x2048, .f32⟩
  | 77 => ⟨S16x2x64x4x2048, .f32⟩
  | 78 => ⟨S16x2048x2x4x64, .f32⟩
  | 79 => ⟨S16x2x4x2048x256, .f32⟩
  | 80 => ⟨S16x2x64x4x2048, .f32⟩
  | 81 => ⟨S16x2048x2x4x64, .f32⟩
  | 82 => ⟨S16x2048x2x4x64, .f32⟩
  | 83 => ⟨S16x256x2x4x64, .f32⟩
  | 84 => ⟨S16x2x256x256x4, .f32⟩
  | 85 => ⟨S16x2x4x256x256, .f32⟩
  | 86 => ⟨S_, .f32⟩
  | 87 => ⟨S16x2x4x256x256, .f32⟩
  | 88 => ⟨S16x2x4x256x256, .f32⟩
  | 89 => ⟨S1x2x4x1x1, .f32⟩
  | 90 => ⟨S16x2x4x256x1, .f32⟩
  | 91 => ⟨S16x2x4x256x257, .f32⟩
  | 92 => ⟨S_, .f32⟩
  | 93 => ⟨S16x2x4x256, .f32⟩
  | 94 => ⟨S_, .f32⟩
  | 95 => ⟨S16x2x4x256, .f32⟩
  | 96 => ⟨S16x2x4x256, .f32⟩
  | 97 => ⟨S16x2x4x256x1, .f32⟩
  | 98 => ⟨S16x2x4x256x257, .f32⟩
  | 99 => ⟨S16x2x4x256x257, .f32⟩
  | 100 => ⟨S16x2x4x256x257, .f32⟩
  | 101 => ⟨S_, .f32⟩
  | 102 => ⟨S16x2x4x256, .f32⟩
  | 103 => ⟨S16x2x4x256x1, .f32⟩
  | 104 => ⟨S16x2x4x256x257, .f32⟩
  | 105 => ⟨S16x2x4x256x257, .f32⟩
  | 106 => ⟨S16x2x4x256x256, .f32⟩
  | 107 => ⟨S16x2x64x4x256, .f32⟩
  | 108 => ⟨S16x256x2x4x64, .f32⟩
  | 109 => ⟨S4096x512, .f32⟩
  | 110 => ⟨S4096x512, .bf16⟩
  | 111 => ⟨S32768x512, .f32⟩
  | 112 => ⟨S32768x512, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_cst_10 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_13 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_15 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_c : Ref sig .tc := ⟨.hbm, 174, rfl⟩
abbrev main_v152 : Ref sig .tc := ⟨.hbm, 175, rfl⟩
abbrev main_v153 : Ref sig .tc := ⟨.hbm, 176, rfl⟩
abbrev main_cst_16 : Ref sig .tc := ⟨.hbm, 177, rfl⟩
abbrev main_call0_v0 : Ref sig .tc := ⟨.hbm, 178, rfl⟩
abbrev main_call0_v1 : Ref sig .tc := ⟨.hbm, 179, rfl⟩
abbrev main_call0_v2 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_17 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_18 : Ref sig .tc := ⟨.hbm, 190, rfl⟩
abbrev main_v162 : Ref sig .tc := ⟨.hbm, 191, rfl⟩
abbrev main_cst_19 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_20 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_cst_21 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_cst_22 : Ref sig .tc := ⟨.hbm, 220, rfl⟩
abbrev main_v188 : Ref sig .tc := ⟨.hbm, 221, rfl⟩
abbrev main_cst_23 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_cst_24 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩

abbrev nD : Nat := 1
abbrev τ : Topo := Topo.v7x

variable {F : FTy → Type} [FloatOps F]
-- ==== Kernel2.lean ====
abbrev S16x2048x1024 : Shape := ⟨3, ![16, 2048, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S32768x1024 : Shape := ⟨2, ![32768, 1024]⟩
abbrev S1024x1024 : Shape := ⟨2, ![1024, 1024]⟩
abbrev S1x1x9x1024 : Shape := ⟨4, ![1, 1, 9, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S4x2x1024x5632, .bf16⟩
  | .hbm, ⟨6, _⟩ => ⟨S4x2x2816x1024, .bf16⟩
  | .hbm, ⟨7, _⟩ => ⟨S4x3x1x1024, .f32⟩
  | .hbm, ⟨8, _⟩ => ⟨S32768x1024, .f32⟩
  | .hbm, ⟨9, _⟩ => ⟨S32768x1024, .f32⟩
  | .hbm, ⟨10, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S1x1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x2048x1024 : Shape := ⟨3, ![16, 2048, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x3x1024 : Shape := ⟨3, ![1, 3, 1024]⟩
abbrev S3x1024 : Shape := ⟨2, ![3, 1024]⟩
abbrev S1x2x1024x5632 : Shape := ⟨4, ![1, 2, 1024, 5632]⟩
abbrev S2x1024x5632 : Shape := ⟨3, ![2, 1024, 5632]⟩
abbrev S1x2x2816x1024 : Shape := ⟨4, ![1, 2, 2816, 1024]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 115
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x16x1x1024, .f32⟩
  | .hbm, ⟨6, _⟩ => ⟨S16x1024, .f32⟩
  | .hbm, ⟨7, _⟩ => ⟨S16x1x1024, .f32⟩
  | .hbm, ⟨8, _⟩ => ⟨S1x16x1x1024, .f32⟩
  | .hbm, ⟨9, _⟩ => ⟨S16x1024, .f32⟩
  | .hbm, ⟨10, _⟩ => ⟨S16x1x1024, .f32⟩
  | .hbm, ⟨11, _⟩ => ⟨S1x16x1x1024, .f32⟩
  | .hbm, ⟨12, _⟩ => ⟨S16x1024, .f32⟩
  | .hbm, ⟨13, _⟩ => ⟨S16x1x1024, .f32⟩
  | .hbm, ⟨14, _⟩ => ⟨S1x16x1x1024, .f32⟩
  | .hbm, ⟨15, _⟩ => ⟨S16x1024, .f32⟩
  | .hbm, ⟨16, _⟩ => ⟨S16x1x1024, .f32⟩
  | .hbm, ⟨17, _⟩ => ⟨S1x16x1x1024, .f32⟩
  | .hbm, ⟨18, _⟩ => ⟨S16x1024, .f32⟩
  | .hbm, ⟨19, _⟩ => ⟨S16x1x1024, .f32⟩
  | .hbm, ⟨20, _⟩ => ⟨S1x16x1x1024, .f32⟩
  | .hbm, ⟨21, _⟩ => ⟨S16x1024, .f32⟩
  | .hbm, ⟨22, _⟩ => ⟨S16x1x1024, .f32⟩
  | .hbm, ⟨23, _⟩ => ⟨S1x16x1x1024, .f32⟩
  | .hbm, ⟨24, _⟩ => ⟨S16x1024, .f32⟩
  | .hbm, ⟨25, _⟩ => ⟨S16x1x1024, .f32⟩
  | .hbm, ⟨26, _⟩ => ⟨S1x16x1x1024, .f32⟩
  | .hbm, ⟨27, _⟩ => ⟨S16x1024, .f32⟩
  | .hbm, ⟨28, _⟩ => ⟨S16x1x1024, .f32⟩
  | .hbm, ⟨29, _⟩ => ⟨S1x16x1x1024, .f32⟩
  | .hbm, ⟨30, _⟩ => ⟨S16x1024, .f32⟩
  | .hbm, ⟨31, _⟩ => ⟨S16x1x1024, .f32⟩
  | .hbm, ⟨32, _⟩ => ⟨S1x3x1024, .f32⟩
  | .hbm, ⟨33, _⟩ => ⟨S3x1024, .f32⟩
  | .hbm, ⟨34, _⟩ => ⟨S1x2x1024x5632, .f32⟩
  | .hbm, ⟨35, _⟩ => ⟨S2x1024x5632, .f32⟩
  | .hbm, ⟨36, _⟩ => ⟨S1x2x2816x1024, .f32⟩
  | .hbm, ⟨37, _⟩ => ⟨S2x2816x1024, .f32⟩
  | .hbm, ⟨38, _⟩ => ⟨S1x1024, .f32⟩
  | .hbm, ⟨39, _⟩ => ⟨S1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x1x1024, .f32⟩
  | .hbm, ⟨65, _⟩ => ⟨S16x1x1024, .f32⟩
  | .hbm, ⟨66, _⟩ => ⟨S1x1024x5632, .f32⟩
  | .hbm, ⟨67, _⟩ => ⟨S1024x5632, .f32⟩
  | .hbm, ⟨68, _⟩ => ⟨S1x2816x1024, .f32⟩
  | .hbm, ⟨69, _⟩ => ⟨S2816x1024, .f32⟩
  | .hbm, ⟨70, _⟩ => ⟨S16x2048x5632, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x2816, .f32⟩
  | .hbm, ⟨75, _⟩ => ⟨S_, .f32⟩
  | .hbm, ⟨76, _⟩ => ⟨S16x2048x2816, .f32⟩
  | .hbm, ⟨77, _⟩ => ⟨S16x2048x2816, .f32⟩
  | .hbm, ⟨78, _⟩ => ⟨S_, .f32⟩
  | .hbm, ⟨79, _⟩ => ⟨S16x2048x2816, .f32⟩
  | .hbm, ⟨80, _⟩ => ⟨S16x2048x2816, .f32⟩
  | .hbm, ⟨81, _⟩ => ⟨S16x2048x2816, .f32⟩
  | .hbm, ⟨82, _⟩ => ⟨S16x2048x2816, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S1x1024, .f32⟩
  | .hbm, ⟨88, _⟩ => ⟨S1024, .f32⟩
  | .hbm, ⟨89, _⟩ => ⟨S16x2048x1024, .f32⟩
  | .hbm, ⟨90, _⟩ => ⟨S_, .f32⟩
  | .hbm, ⟨91, _⟩ => ⟨S16x2048, .f32⟩
  | .hbm, ⟨92, _⟩ => ⟨S16x2048x1, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S16x2048x1, .f32⟩
  | .hbm, ⟨100, _⟩ => ⟨S16x2048x1024, .f32⟩
  | .hbm, ⟨101, _⟩ => ⟨S16x2048x1024, .f32⟩
  | .hbm, ⟨102, _⟩ => ⟨S1x1x1024, .f32⟩
  | .hbm, ⟨103, _⟩ => ⟨S16x2048x1024, .f32⟩
  | .hbm, ⟨104, _⟩ => ⟨S16x2048x1024, .f32⟩
  | .hbm, ⟨105, _⟩ => ⟨S_, .f32⟩
  | .hbm, ⟨106, _⟩ => ⟨S16x1x1024, .f32⟩
  | .hbm, ⟨107, _⟩ => ⟨S16x1x1024, .f32⟩
  | .hbm, ⟨108, _⟩ => ⟨S16x2048x1024, .f32⟩
  | .hbm, ⟨109, _⟩ => ⟨S16x2048x1024, .f32⟩
  | .hbm, ⟨110, _⟩ => ⟨S16x2048x1024, .f32⟩
  | .hbm, ⟨111, _⟩ => ⟨S16x2048x1024, .f32⟩
  | .hbm, ⟨112, _⟩ => ⟨S32768x1024, .f32⟩
  | .hbm, ⟨113, _⟩ => ⟨S32768x1024, .f32⟩
  | .hbm, ⟨114, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_3 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_4 : Ref sig .tc := ⟨.hbm, 90, rfl⟩
abbrev main_v72 : Ref sig .tc := ⟨.hbm, 91, rfl⟩
abbrev main_v73 : Ref sig .tc := ⟨.hbm, 92, rfl⟩
abbrev main_cst_5 : Ref sig .tc := ⟨.hbm, 93, rfl⟩
abbrev main_v74 : Ref sig .tc := ⟨.hbm, 94, rfl⟩
abbrev main_v75 : Ref sig .tc := ⟨.hbm, 95, rfl⟩
abbrev main_cst_6 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_7 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S4x24x9x1024 : Shape := ⟨4, ![4, 24, 9, 1024]⟩
abbrev S4x1024x8464 : Shape := ⟨3, ![4, 1024, 8464]⟩
abbrev S4x1536x1024 : Shape := ⟨3, ![4, 1536, 1024]⟩
abbrev S4x1024x1024 : Shape := ⟨3, ![4, 1024, 1024]⟩
abbrev S4x1024x3072 : Shape := ⟨3, ![4, 1024, 3072]⟩
abbrev S32768x1024 : Shape := ⟨2, ![32768, 1024]⟩
abbrev S32768x512 : Shape := ⟨2, ![32768, 512]⟩
abbrev S512x1024 : Shape := ⟨2, ![512, 1024]⟩
abbrev S512x512 : Shape := ⟨2, ![512, 512]⟩
abbrev S1x1x9x1024 : Shape := ⟨4, ![1, 1, 9, 1024]⟩
abbrev S1x1024x3072 : Shape := ⟨3, ![1, 1024, 3072]⟩
abbrev S1x1536x1024 : Shape := ⟨3, ![1, 1536, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x1x1x1024 : Shape := ⟨4, ![1, 1, 1, 1024]⟩
abbrev S1x1024 : Shape := ⟨2, ![1, 1024]⟩

abbrev nBuf : Space → Nat
  | .hbm => 23
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S4x24x9x1024, .f32⟩
  | .hbm, ⟨6, _⟩ => ⟨S4x1024x8464, .f32⟩
  | .hbm, ⟨7, _⟩ => ⟨S4x1536x1024, .f32⟩
  | .hbm, ⟨8, _⟩ => ⟨S4x1024x1024, .f32⟩
  | .hbm, ⟨9, _⟩ => ⟨S4x1024x3072, .f32⟩
  | .hbm, ⟨10, _⟩ => ⟨S4x1024x3072, .bf16⟩
  | .hbm, ⟨11, _⟩ => ⟨S4x1536x1024, .bf16⟩
  | .hbm, ⟨12, _⟩ => ⟨S4x1024x1024, .bf16⟩
  | .hbm, ⟨13, _⟩ => ⟨S32768x1024, .f32⟩
  | .hbm, ⟨14, _⟩ => ⟨S32768x1024, .f32⟩
  | .hbm, ⟨15, _⟩ => ⟨S32768x1024, .bf16⟩
  | .hbm, ⟨16, _⟩ => ⟨S32768x512, .f32⟩
  | .hbm, ⟨17, _⟩ => ⟨S32768x512, .bf16⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .bf16⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1x9x1024, .f32⟩
  | .local _ .vmem, ⟨11, _⟩ => ⟨S1x1x9x1024, .f32⟩
  | .local _ .vmem, ⟨12, _⟩ => ⟨S1x1024x3072, .bf16⟩
  | .local _ .vmem, ⟨13, _⟩ => ⟨S1x1536x1024, .bf16⟩
  | .local _ .vmem, ⟨14, _⟩ => ⟨S1x1024x1024, .bf16⟩
  | .local _ .vmem, ⟨15, _⟩ => ⟨S512x1024, .f32⟩
  | .local _ .vmem, ⟨16, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S16x2048x512 : Shape := ⟨3, ![16, 2048, 512]⟩
abbrev S4x24x9x1024 : Shape := ⟨4, ![4, 24, 9, 1024]⟩
abbrev S4x1024x8464 : Shape := ⟨3, ![4, 1024, 8464]⟩
abbrev S4x1536x1024 : Shape := ⟨3, ![4, 1536, 1024]⟩
abbrev S4x1024x1024 : Shape := ⟨3, ![4, 1024, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x1024x3072 : Shape := ⟨3, ![1, 1024, 3072]⟩
abbrev S1024x3072 : Shape := ⟨2, ![1024, 3072]⟩
abbrev S16x2048x3072 : Shape := ⟨3, ![16, 2048, 3072]⟩
abbrev S1x1536x1024 : Shape := ⟨3, ![1, 1536, 1024]⟩
abbrev S1536x1024 : Shape := ⟨2, ![1536, 1024]⟩
abbrev S1x1024x1024 : Shape := ⟨3, ![1, 1024, 1024]⟩
abbrev S1024x1024 : Shape := ⟨2, ![1024, 1024]⟩
abbrev S_ : Shape := ⟨0, ![]⟩
abbrev S512x1024 : Shape := ⟨2, ![512, 1024]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S4x24x9x1024, .f32⟩
  | .hbm, ⟨6, _⟩ => ⟨S4x1024x8464, .f32⟩
  | .hbm, ⟨7, _⟩ => ⟨S4x1536x1024, .f32⟩
  | .hbm, ⟨8, _⟩ => ⟨S4x1024x1024, .f32⟩
  | .hbm, ⟨9, _⟩ => ⟨S1x16x1x1024, .f32⟩
  | .hbm, ⟨10, _⟩ => ⟨S16x1024, .f32⟩
  | .hbm, ⟨11, _⟩ => ⟨S16x1x1024, .f32⟩
  | .hbm, ⟨12, _⟩ => ⟨S1x1024x3072, .f32⟩
  | .hbm, ⟨13, _⟩ => ⟨S1024x3072, .f32⟩
  | .hbm, ⟨14, _⟩ => ⟨S16x2048x3072, .f32⟩
  | .hbm, ⟨15, _⟩ => ⟨S1x1536x1024, .f32⟩
  | .hbm, ⟨16, _⟩ => ⟨S1536x1024, .f32⟩
  | .hbm, ⟨17, _⟩ => ⟨S1x1024x1024, .f32⟩
  | .hbm, ⟨18, _⟩ => ⟨S1024x1024, .f32⟩
  | .hbm, ⟨19, _⟩ => ⟨S16x2048x3072, .f32⟩
  | .hbm, ⟨20, _⟩ => ⟨S16x2048x3072, .f32⟩
  | .hbm, ⟨21, _⟩ => ⟨S_, .f32⟩
  | .hbm, ⟨22, _⟩ => ⟨S16x2048x3072, .f32⟩
  | .hbm, ⟨23, _⟩ => ⟨S16x2048x3072, .f32⟩
  | .hbm, ⟨24, _⟩ => ⟨S_, .f32⟩
  | .hbm, ⟨25, _⟩ => ⟨S16x2048x3072, .f32⟩
  | .hbm, ⟨26, _⟩ => ⟨S16x2048x3072, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel4.lean ====
abbrev S16x2048x1024 : Shape := ⟨3, ![16, 2048, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S32768x1024 : Shape := ⟨2, ![32768, 1024]⟩
abbrev S1024x1024 : Shape := ⟨2, ![1024, 1024]⟩
abbrev S1x1x9x1024 : Shape := ⟨4, ![1, 1, 9, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S4x2x1024x5632, .bf16⟩
  | .hbm, ⟨6, _⟩ => ⟨S4x2x2816x1024, .bf16⟩
  | .hbm, ⟨7, _⟩ => ⟨S4x3x1x1024, .f32⟩
  | .hbm, ⟨8, _⟩ => ⟨S32768x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S1x1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .f32⟩
  | .local _ .vmem, ⟨8, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_2 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x2048x1024 : Shape := ⟨3, ![16, 2048, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x3x1024 : Shape := ⟨3, ![1, 3, 1024]⟩
abbrev S3x1024 : Shape := ⟨2, ![3, 1024]⟩
abbrev S1x2x1024x5632 : Shape := ⟨4, ![1, 2, 1024, 5632]⟩
abbrev S2x1024x5632 : Shape := ⟨3, ![2, 1024, 5632]⟩
abbrev S1x2x2816x1024 : Shape := ⟨4, ![1, 2, 2816, 1024]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x16x1x1024, .f32⟩
  | .hbm, ⟨6, _⟩ => ⟨S16x1024, .f32⟩
  | .hbm, ⟨7, _⟩ => ⟨S16x1x1024, .f32⟩
  | .hbm, ⟨8, _⟩ => ⟨S1x16x1x1024, .f32⟩
  | .hbm, ⟨9, _⟩ => ⟨S16x1024, .f32⟩
  | .hbm, ⟨10, _⟩ => ⟨S16x1x1024, .f32⟩
  | .hbm, ⟨11, _⟩ => ⟨S1x16x1x1024, .f32⟩
  | .hbm, ⟨12, _⟩ => ⟨S16x1024, .f32⟩
  | .hbm, ⟨13, _⟩ => ⟨S16x1x1024, .f32⟩
  | .hbm, ⟨14, _⟩ => ⟨S1x16x1x1024, .f32⟩
  | .hbm, ⟨15, _⟩ => ⟨S16x1024, .f32⟩
  | .hbm, ⟨16, _⟩ => ⟨S16x1x1024, .f32⟩
  | .hbm, ⟨17, _⟩ => ⟨S1x16x1x1024, .f32⟩
  | .hbm, ⟨18, _⟩ => ⟨S16x1024, .f32⟩
  | .hbm, ⟨19, _⟩ => ⟨S16x1x1024, .f32⟩
  | .hbm, ⟨20, _⟩ => ⟨S1x16x1x1024, .f32⟩
  | .hbm, ⟨21, _⟩ => ⟨S16x1024, .f32⟩
  | .hbm, ⟨22, _⟩ => ⟨S16x1x1024, .f32⟩
  | .hbm, ⟨23, _⟩ => ⟨S1x16x1x1024, .f32⟩
  | .hbm, ⟨24, _⟩ => ⟨S16x1024, .f32⟩
  | .hbm, ⟨25, _⟩ => ⟨S16x1x1024, .f32⟩
  | .hbm, ⟨26, _⟩ => ⟨S1x16x1x1024, .f32⟩
  | .hbm, ⟨27, _⟩ => ⟨S16x1024, .f32⟩
  | .hbm, ⟨28, _⟩ => ⟨S16x1x1024, .f32⟩
  | .hbm, ⟨29, _⟩ => ⟨S1x16x1x1024, .f32⟩
  | .hbm, ⟨30, _⟩ => ⟨S16x1024, .f32⟩
  | .hbm, ⟨31, _⟩ => ⟨S16x1x1024, .f32⟩
  | .hbm, ⟨32, _⟩ => ⟨S1x3x1024, .f32⟩
  | .hbm, ⟨33, _⟩ => ⟨S3x1024, .f32⟩
  | .hbm, ⟨34, _⟩ => ⟨S1x2x1024x5632, .f32⟩
  | .hbm, ⟨35, _⟩ => ⟨S2x1024x5632, .f32⟩
  | .hbm, ⟨36, _⟩ => ⟨S1x2x2816x1024, .f32⟩
  | .hbm, ⟨37, _⟩ => ⟨S2x2816x1024, .f32⟩
  | .hbm, ⟨38, _⟩ => ⟨S1x1024, .f32⟩
  | .hbm, ⟨39, _⟩ => ⟨S1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x1x1024, .f32⟩
  | .hbm, ⟨65, _⟩ => ⟨S16x1x1024, .f32⟩
  | .hbm, ⟨66, _⟩ => ⟨S1x1024x5632, .f32⟩
  | .hbm, ⟨67, _⟩ => ⟨S1024x5632, .f32⟩
  | .hbm, ⟨68, _⟩ => ⟨S1x2816x1024, .f32⟩
  | .hbm, ⟨69, _⟩ => ⟨S2816x1024, .f32⟩
  | .hbm, ⟨70, _⟩ => ⟨S16x2048x5632, .f32⟩
  | .hbm, ⟨71, _⟩ => ⟨S16x2048x2816, .f32⟩
  | .hbm, ⟨72, _⟩ => ⟨S16x2048x2816, .f32⟩
  | .hbm, ⟨73, _⟩ => ⟨S16x2048x2816, .f32⟩
  | .hbm, ⟨74, _⟩ => ⟨S16x2048x2816, .f32⟩
  | .hbm, ⟨75, _⟩ => ⟨S_, .f32⟩
  | .hbm, ⟨76, _⟩ => ⟨S16x2048x2816, .f32⟩
  | .hbm, ⟨77, _⟩ => ⟨S16x2048x2816, .f32⟩
  | .hbm, ⟨78, _⟩ => ⟨S_, .f32⟩
  | .hbm, ⟨79, _⟩ => ⟨S16x2048x2816, .f32⟩
  | .hbm, ⟨80, _⟩ => ⟨S16x2048x2816, .f32⟩
  | .hbm, ⟨81, _⟩ => ⟨S16x2048x2816, .f32⟩
  | .hbm, ⟨82, _⟩ => ⟨S16x2048x2816, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_3 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel5.lean ====
abbrev S16x256x1024 : Shape := ⟨3, ![16, 256, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S4096x1024 : Shape := ⟨2, ![4096, 1024]⟩
abbrev S1024x1024 : Shape := ⟨2, ![1024, 1024]⟩
abbrev S1x1x9x1024 : Shape := ⟨4, ![1, 1, 9, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S4x2x1024x5632, .bf16⟩
  | .hbm, ⟨6, _⟩ => ⟨S4x2x2816x1024, .bf16⟩
  | .hbm, ⟨7, _⟩ => ⟨S4x3x1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x9x1024, .f32⟩
  | .local _ .vmem, ⟨3, _⟩ => ⟨S1x1x1x1024, .f32⟩
  | .local _ .vmem, ⟨4, _⟩ => ⟨S1x1x1024x5632, .bf16⟩
  | .local _ .vmem, ⟨5, _⟩ => ⟨S1x1x2816x1024, .bf16⟩
  | .local _ .vmem, ⟨6, _⟩ => ⟨S1x1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c16_i32 : BitVec 32 := 16#32
  let c0_i32_0 : BitVec 32 := 0#32
  let c0_i32_1 : BitVec 32 := 0#32
  let c0_i32_2 : BitVec 32 := 0#32
  ![c0_i32.toNat, c16_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16x256x1024 : Shape := ⟨3, ![16, 256, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1x1024 : Shape := ⟨4, ![1, 1, 1, 1024]⟩
abbrev S1024 : Shape := ⟨1, ![1024]⟩
abbrev S1x3x1024 : Shape := ⟨3, ![1, 3, 1024]⟩
abbrev S3x1024 : Shape := ⟨2, ![3, 1024]⟩
abbrev S1x2x1024x5632 : Shape := ⟨4, ![1, 2, 1024, 5632]⟩
abbrev S2x1024x5632 : Shape := ⟨3, ![2, 1024, 5632]⟩
abbrev S1x2x2816x1024 : Shape := ⟨4, ![1, 2, 2816, 1024]⟩
abbrev S2x2816x1024 : Shape := ⟨3, ![2, 2816, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x256x5632 : Shape := ⟨3, ![16, 256, 5632]⟩
abbrev S16x256x2816 : Shape := ⟨3, ![16, 256, 2816]⟩
abbrev S4096x1024 : Shape := ⟨2, ![4096, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x1x1x1024, .f32⟩
  | .hbm, ⟨6, _⟩ => ⟨S1024, .f32⟩
  | .hbm, ⟨7, _⟩ => ⟨S1x1x1x1024, .f32⟩
  | .hbm, ⟨8, _⟩ => ⟨S1024, .f32⟩
  | .hbm, ⟨9, _⟩ => ⟨S1x1x1x1024, .f32⟩
  | .hbm, ⟨10, _⟩ => ⟨S1024, .f32⟩
  | .hbm, ⟨11, _⟩ => ⟨S1x1x1x1024, .f32⟩
  | .hbm, ⟨12, _⟩ => ⟨S1024, .f32⟩
  | .hbm, ⟨13, _⟩ => ⟨S1x1x1x1024, .f32⟩
  | .hbm, ⟨14, _⟩ => ⟨S1024, .f32⟩
  | .hbm, ⟨15, _⟩ => ⟨S1x1x1x1024, .f32⟩
  | .hbm, ⟨16, _⟩ => ⟨S1024, .f32⟩
  | .hbm, ⟨17, _⟩ => ⟨S1x1x1x1024, .f32⟩
  | .hbm, ⟨18, _⟩ => ⟨S1024, .f32⟩
  | .hbm, ⟨19, _⟩ => ⟨S1x1x1x1024, .f32⟩
  | .hbm, ⟨20, _⟩ => ⟨S1024, .f32⟩
  | .hbm, ⟨21, _⟩ => ⟨S1x1x1x1024, .f32⟩
  | .hbm, ⟨22, _⟩ => ⟨S1024, .f32⟩
  | .hbm, ⟨23, _⟩ => ⟨S1x3x1024, .f32⟩
  | .hbm, ⟨24, _⟩ => ⟨S3x1024, .f32⟩
  | .hbm, ⟨25, _⟩ => ⟨S1x2x1024x5632, .f32⟩
  | .hbm, ⟨26, _⟩ => ⟨S2x1024x5632, .f32⟩
  | .hbm, ⟨27, _⟩ => ⟨S1x2x2816x1024, .f32⟩
  | .hbm, ⟨28, _⟩ => ⟨S2x2816x1024, .f32⟩
  | .hbm, ⟨29, _⟩ => ⟨S1x1024, .f32⟩
  | .hbm, ⟨30, _⟩ => ⟨S1024, .f32⟩
  | .hbm, ⟨31, _⟩ => ⟨S16x256x1024, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S_, .f32⟩
  | .hbm, ⟨39, _⟩ => ⟨S16x256x1, .f32⟩
  | .hbm, ⟨40, _⟩ => ⟨S16x256x1, .f32⟩
  | .hbm, ⟨41, _⟩ => ⟨S16x256x1, .f32⟩
  | .hbm, ⟨42, _⟩ => ⟨S16x256x1024, .f32⟩
  | .hbm, ⟨43, _⟩ => ⟨S16x256x1024, .f32⟩
  | .hbm, ⟨44, _⟩ => ⟨S1x1x1024, .f32⟩
  | .hbm, ⟨45, _⟩ => ⟨S16x256x1024, .f32⟩
  | .hbm, ⟨46, _⟩ => ⟨S16x256x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1x1024, .f32⟩
  | .hbm, ⟨51, _⟩ => ⟨S16x256x1024, .f32⟩
  | .hbm, ⟨52, _⟩ => ⟨S16x256x1024, .f32⟩
  | .hbm, ⟨53, _⟩ => ⟨S1x1x1024, .f32⟩
  | .hbm, ⟨54, _⟩ => ⟨S16x256x1024, .f32⟩
  | .hbm, ⟨55, _⟩ => ⟨S16x256x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024x5632, .f32⟩
  | .hbm, ⟨60, _⟩ => ⟨S1024x5632, .f32⟩
  | .hbm, ⟨61, _⟩ => ⟨S1x2816x1024, .f32⟩
  | .hbm, ⟨62, _⟩ => ⟨S2816x1024, .f32⟩
  | .hbm, ⟨63, _⟩ => ⟨S16x256x5632, .f32⟩
  | .hbm, ⟨64, _⟩ => ⟨S16x256x2816, .f32⟩
  | .hbm, ⟨65, _⟩ => ⟨S16x256x2816, .f32⟩
  | .hbm, ⟨66, _⟩ => ⟨S16x256x2816, .f32⟩
  | .hbm, ⟨67, _⟩ => ⟨S16x256x2816, .f32⟩
  | .hbm, ⟨68, _⟩ => ⟨S_, .f32⟩
  | .hbm, ⟨69, _⟩ => ⟨S16x256x2816, .f32⟩
  | .hbm, ⟨70, _⟩ => ⟨S16x256x2816, .f32⟩
  | .hbm, ⟨71, _⟩ => ⟨S_, .f32⟩
  | .hbm, ⟨72, _⟩ => ⟨S16x256x2816, .f32⟩
  | .hbm, ⟨73, _⟩ => ⟨S16x256x2816, .f32⟩
  | .hbm, ⟨74, _⟩ => ⟨S16x256x2816, .f32⟩
  | .hbm, ⟨75, _⟩ => ⟨S16x256x2816, .f32⟩
  | .hbm, ⟨76, _⟩ => ⟨S16x256x1024, .f32⟩
  | .hbm, ⟨77, _⟩ => ⟨S1x1x1024, .f32⟩
  | .hbm, ⟨78, _⟩ => ⟨S16x256x1024, .f32⟩
  | .hbm, ⟨79, _⟩ => ⟨S16x256x1024, .f32⟩
  | .hbm, ⟨80, _⟩ => ⟨S16x256x1024, .f32⟩
  | .hbm, ⟨81, _⟩ => ⟨S1x1024, .f32⟩
  | .hbm, ⟨82, _⟩ => ⟨S1024, .f32⟩
  | .hbm, ⟨83, _⟩ => ⟨S16x256x1024, .f32⟩
  | .hbm, ⟨84, _⟩ => ⟨S_, .f32⟩
  | .hbm, ⟨85, _⟩ => ⟨S16x256, .f32⟩
  | .hbm, ⟨86, _⟩ => ⟨S16x256x1, .f32⟩
  | .hbm, ⟨87, _⟩ => ⟨S_, .f32⟩
  | .hbm, ⟨88, _⟩ => ⟨S16x256x1, .f32⟩
  | .hbm, ⟨89, _⟩ => ⟨S16x256x1, .f32⟩
  | .hbm, ⟨90, _⟩ => ⟨S_, .f32⟩
  | .hbm, ⟨91, _⟩ => ⟨S16x256x1, .f32⟩
  | .hbm, ⟨92, _⟩ => ⟨S16x256x1, .f32⟩
  | .hbm, ⟨93, _⟩ => ⟨S16x256x1, .f32⟩
  | .hbm, ⟨94, _⟩ => ⟨S16x256x1024, .f32⟩
  | .hbm, ⟨95, _⟩ => ⟨S16x256x1024, .f32⟩
  | .hbm, ⟨96, _⟩ => ⟨S1x1x1024, .f32⟩
  | .hbm, ⟨97, _⟩ => ⟨S16x256x1024, .f32⟩
  | .hbm, ⟨98, _⟩ => ⟨S16x256x1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S1x1x1024, .f32⟩
  | .hbm, ⟨103, _⟩ => ⟨S16x256x1024, .f32⟩
  | .hbm, ⟨104, _⟩ => ⟨S16x256x1024, .f32⟩
  | .hbm, ⟨105, _⟩ => ⟨S1x1x1024, .f32⟩
  | .hbm, ⟨106, _⟩ => ⟨S16x256x1024, .f32⟩
  | .hbm, ⟨107, _⟩ => ⟨S16x256x1024, .f32⟩
  | .hbm, ⟨108, _⟩ => ⟨S4096x1024, .f32⟩
  | .hbm, ⟨109, _⟩ => ⟨S4096x1024, .f32⟩
  | .hbm, ⟨110, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_4 : Ref sig .tc := ⟨.hbm, 84, rfl⟩
abbrev main_v66 : Ref sig .tc := ⟨.hbm, 85, rfl⟩
abbrev main_v67 : Ref sig .tc := ⟨.hbm, 86, rfl⟩
abbrev main_cst_5 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Kernel6.lean ====
abbrev S16x256x1024 : Shape := ⟨3, ![16, 256, 1024]⟩
abbrev S16x256x512 : Shape := ⟨3, ![16, 256, 512]⟩
abbrev S4x24x9x1024 : Shape := ⟨4, ![4, 24, 9, 1024]⟩
abbrev S4x1024x8464 : Shape := ⟨3, ![4, 1024, 8464]⟩
abbrev S4x1536x1024 : Shape := ⟨3, ![4, 1536, 1024]⟩
abbrev S4x1024x1024 : Shape := ⟨3, ![4, 1024, 1024]⟩
abbrev S4x1024x3072 : Shape := ⟨3, ![4, 1024, 3072]⟩
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S1x1x9x1024 : Shape := ⟨4, ![1, 1, 9, 1024]⟩
abbrev S1x1024x3072 : Shape := ⟨3, ![1, 1024, 3072]⟩
abbrev S1x1536x1024 : Shape := ⟨3, ![1, 1536, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x1x1x1024 : Shape := ⟨4, ![1, 1, 1, 1024]⟩
abbrev S1x1024 : Shape := ⟨2, ![1, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S16x256x512, .f32⟩
  | .hbm, ⟨3, _⟩ => ⟨S16x256x512, .f32⟩
  | .hbm, ⟨4, _⟩ => ⟨S16x256x512, .f32⟩
  | .hbm, ⟨5, _⟩ => ⟨S4x24x9x1024, .f32⟩
  | .hbm, ⟨6, _⟩ => ⟨S4x1024x8464, .f32⟩
  | .hbm, ⟨7, _⟩ => ⟨S4x1536x1024, .f32⟩
  | .hbm, ⟨8, _⟩ => ⟨S4x1024x1024, .f32⟩
  | .hbm, ⟨9, _⟩ => ⟨S4x1024x3072, .f32⟩
  | .hbm, ⟨10, _⟩ => ⟨S4x1024x3072, .bf16⟩
  | .hbm, ⟨11, _⟩ => ⟨S4x1536x1024, .bf16⟩
  | .hbm, ⟨12, _⟩ => ⟨S4x1024x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4096x512, .f32⟩
  | .hbm, ⟨17, _⟩ => ⟨S4096x512, .bf16⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S4096x512, .bf16⟩
  | .hbm, ⟨22, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1x9x1024, .f32⟩
  | .local _ .vmem, ⟨11, _⟩ => ⟨S1x1024x3072, .bf16⟩
  | .local _ .vmem, ⟨12, _⟩ => ⟨S1x1536x1024, .bf16⟩
  | .local _ .vmem, ⟨13, _⟩ => ⟨S1x1024x1024, .bf16⟩
  | .local _ .vmem, ⟨14, _⟩ => ⟨S512x1024, .f32⟩
  | .local _ .vmem, ⟨15, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c16_i32 : BitVec 32 := 16#32
  let c0_i32_0 : BitVec 32 := 0#32
  let c0_i32_1 : BitVec 32 := 0#32
  let c0_i32_2 : BitVec 32 := 0#32
  ![c0_i32.toNat, c16_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16x256x1024 : Shape := ⟨3, ![16, 256, 1024]⟩
abbrev S16x256x512 : Shape := ⟨3, ![16, 256, 512]⟩
abbrev S4x24x9x1024 : Shape := ⟨4, ![4, 24, 9, 1024]⟩
abbrev S4x1024x8464 : Shape := ⟨3, ![4, 1024, 8464]⟩
abbrev S4x1536x1024 : Shape := ⟨3, ![4, 1536, 1024]⟩
abbrev S4x1024x1024 : Shape := ⟨3, ![4, 1024, 1024]⟩
abbrev S1x1024x3072 : Shape := ⟨3, ![1, 1024, 3072]⟩
abbrev S1024x3072 : Shape := ⟨2, ![1024, 3072]⟩
abbrev S16x256x3072 : Shape := ⟨3, ![16, 256, 3072]⟩
abbrev S1x1x1x1024 : Shape := ⟨4, ![1, 1, 1, 1024]⟩
abbrev S1024 : Shape := ⟨1, ![1024]⟩
abbrev S1x1536x1024 : Shape := ⟨3, ![1, 1536, 1024]⟩
abbrev S1536x1024 : Shape := ⟨2, ![1536, 1024]⟩
abbrev S1x1024x1024 : Shape := ⟨3, ![1, 1024, 1024]⟩
abbrev S1024x1024 : Shape := ⟨2, ![1024, 1024]⟩
abbrev S_ : Shape := ⟨0, ![]⟩
abbrev S512x1024 : Shape := ⟨2, ![512, 1024]⟩
abbrev S1x1x1024 : Shape := ⟨3, ![1, 1, 1024]⟩
abbrev S4096x1024 : Shape := ⟨2, ![4096, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S16x256x512, .f32⟩
  | .hbm, ⟨3, _⟩ => ⟨S16x256x512, .f32⟩
  | .hbm, ⟨4, _⟩ => ⟨S16x256x512, .f32⟩
  | .hbm, ⟨5, _⟩ => ⟨S4x24x9x1024, .f32⟩
  | .hbm, ⟨6, _⟩ => ⟨S4x1024x8464, .f32⟩
  | .hbm, ⟨7, _⟩ => ⟨S4x1536x1024, .f32⟩
  | .hbm, ⟨8, _⟩ => ⟨S4x1024x1024, .f32⟩
  | .hbm, ⟨9, _⟩ => ⟨S1x1024x3072, .f32⟩
  | .hbm, ⟨10, _⟩ => ⟨S1024x3072, .f32⟩
  | .hbm, ⟨11, _⟩ => ⟨S16x256x3072, .f32⟩
  | .hbm, ⟨12, _⟩ => ⟨S1x1x1x1024, .f32⟩
  | .hbm, ⟨13, _⟩ => ⟨S1024, .f32⟩
  | .hbm, ⟨14, _⟩ => ⟨S1x1536x1024, .f32⟩
  | .hbm, ⟨15, _⟩ => ⟨S1536x1024, .f32⟩
  | .hbm, ⟨16, _⟩ => ⟨S1x1024x1024, .f32⟩
  | .hbm, ⟨17, _⟩ => ⟨S1024x1024, .f32⟩
  | .hbm, ⟨18, _⟩ => ⟨S16x256x3072, .f32⟩
  | .hbm, ⟨19, _⟩ => ⟨S16x256x3072, .f32⟩
  | .hbm, ⟨20, _⟩ => ⟨S_, .f32⟩
  | .hbm, ⟨21, _⟩ => ⟨S16x256x3072, .f32⟩
  | .hbm, ⟨22, _⟩ => ⟨S16x256x3072, .f32⟩
  | .hbm, ⟨23, _⟩ => ⟨S_, .f32⟩
  | .hbm, ⟨24, _⟩ => ⟨S16x256x3072, .f32⟩
  | .hbm, ⟨25, _⟩ => ⟨S16x256x3072, .f32⟩
  | .hbm, ⟨26, _⟩ => ⟨S16x256x1024, .f32⟩
  | .hbm, ⟨27, _⟩ => ⟨S16x256x1024, .f32⟩
  | .hbm, ⟨28, _⟩ => ⟨S16x256x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel7.lean ====
abbrev S16x256x1024 : Shape := ⟨3, ![16, 256, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S4096x1024 : Shape := ⟨2, ![4096, 1024]⟩
abbrev S1024x1024 : Shape := ⟨2, ![1024, 1024]⟩
abbrev S1x1x9x1024 : Shape := ⟨4, ![1, 1, 9, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S4x2x1024x5632, .bf16⟩
  | .hbm, ⟨6, _⟩ => ⟨S4x2x2816x1024, .bf16⟩
  | .hbm, ⟨7, _⟩ => ⟨S4x3x1x1024, .f32⟩
  | .hbm, ⟨8, _⟩ => ⟨S4096x1024, .f32⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x9x1024, .f32⟩
  | .local _ .vmem, ⟨3, _⟩ => ⟨S1x1x1x1024, .f32⟩
  | .local _ .vmem, ⟨4, _⟩ => ⟨S1x1x1024x5632, .bf16⟩
  | .local _ .vmem, ⟨5, _⟩ => ⟨S1x1x2816x1024, .bf16⟩
  | .local _ .vmem, ⟨6, _⟩ => ⟨S1024x1024, .f32⟩
  | .local _ .vmem, ⟨7, _⟩ => ⟨S1024x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c16_i32 : BitVec 32 := 16#32
  let c0_i32_0 : BitVec 32 := 0#32
  let c0_i32_1 : BitVec 32 := 0#32
  let c0_i32_2 : BitVec 32 := 0#32
  ![c0_i32.toNat, c16_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16x256x1024 : Shape := ⟨3, ![16, 256, 1024]⟩
abbrev S4x24x9x1024 : Shape := ⟨4, ![4, 24, 9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1x1024 : Shape := ⟨4, ![1, 1, 1, 1024]⟩
abbrev S1024 : Shape := ⟨1, ![1024]⟩
abbrev S1x3x1024 : Shape := ⟨3, ![1, 3, 1024]⟩
abbrev S3x1024 : Shape := ⟨2, ![3, 1024]⟩
abbrev S1x2x1024x5632 : Shape := ⟨4, ![1, 2, 1024, 5632]⟩
abbrev S2x1024x5632 : Shape := ⟨3, ![2, 1024, 5632]⟩
abbrev S1x2x2816x1024 : Shape := ⟨4, ![1, 2, 2816, 1024]⟩
abbrev S2x2816x1024 : Shape := ⟨3, ![2, 2816, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x256x5632 : Shape := ⟨3, ![16, 256, 5632]⟩
abbrev S16x256x2816 : Shape := ⟨3, ![16, 256, 2816]⟩
abbrev S4096x1024 : Shape := ⟨2, ![4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x24x9x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x1x1x1024, .f32⟩
  | .hbm, ⟨6, _⟩ => ⟨S1024, .f32⟩
  | .hbm, ⟨7, _⟩ => ⟨S1x1x1x1024, .f32⟩
  | .hbm, ⟨8, _⟩ => ⟨S1024, .f32⟩
  | .hbm, ⟨9, _⟩ => ⟨S1x1x1x1024, .f32⟩
  | .hbm, ⟨10, _⟩ => ⟨S1024, .f32⟩
  | .hbm, ⟨11, _⟩ => ⟨S1x1x1x1024, .f32⟩
  | .hbm, ⟨12, _⟩ => ⟨S1024, .f32⟩
  | .hbm, ⟨13, _⟩ => ⟨S1x1x1x1024, .f32⟩
  | .hbm, ⟨14, _⟩ => ⟨S1024, .f32⟩
  | .hbm, ⟨15, _⟩ => ⟨S1x1x1x1024, .f32⟩
  | .hbm, ⟨16, _⟩ => ⟨S1024, .f32⟩
  | .hbm, ⟨17, _⟩ => ⟨S1x1x1x1024, .f32⟩
  | .hbm, ⟨18, _⟩ => ⟨S1024, .f32⟩
  | .hbm, ⟨19, _⟩ => ⟨S1x1x1x1024, .f32⟩
  | .hbm, ⟨20, _⟩ => ⟨S1024, .f32⟩
  | .hbm, ⟨21, _⟩ => ⟨S1x1x1x1024, .f32⟩
  | .hbm, ⟨22, _⟩ => ⟨S1024, .f32⟩
  | .hbm, ⟨23, _⟩ => ⟨S1x3x1024, .f32⟩
  | .hbm, ⟨24, _⟩ => ⟨S3x1024, .f32⟩
  | .hbm, ⟨25, _⟩ => ⟨S1x2x1024x5632, .f32⟩
  | .hbm, ⟨26, _⟩ => ⟨S2x1024x5632, .f32⟩
  | .hbm, ⟨27, _⟩ => ⟨S1x2x2816x1024, .f32⟩
  | .hbm, ⟨28, _⟩ => ⟨S2x2816x1024, .f32⟩
  | .hbm, ⟨29, _⟩ => ⟨S1x1024, .f32⟩
  | .hbm, ⟨30, _⟩ => ⟨S1024, .f32⟩
  | .hbm, ⟨31, _⟩ => ⟨S16x256x1024, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S_, .f32⟩
  | .hbm, ⟨39, _⟩ => ⟨S16x256x1, .f32⟩
  | .hbm, ⟨40, _⟩ => ⟨S16x256x1, .f32⟩
  | .hbm, ⟨41, _⟩ => ⟨S16x256x1, .f32⟩
  | .hbm, ⟨42, _⟩ => ⟨S16x256x1024, .f32⟩
  | .hbm, ⟨43, _⟩ => ⟨S16x256x1024, .f32⟩
  | .hbm, ⟨44, _⟩ => ⟨S1x1x1024, .f32⟩
  | .hbm, ⟨45, _⟩ => ⟨S16x256x1024, .f32⟩
  | .hbm, ⟨46, _⟩ => ⟨S16x256x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1x1024, .f32⟩
  | .hbm, ⟨51, _⟩ => ⟨S16x256x1024, .f32⟩
  | .hbm, ⟨52, _⟩ => ⟨S16x256x1024, .f32⟩
  | .hbm, ⟨53, _⟩ => ⟨S1x1x1024, .f32⟩
  | .hbm, ⟨54, _⟩ => ⟨S16x256x1024, .f32⟩
  | .hbm, ⟨55, _⟩ => ⟨S16x256x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024x5632, .f32⟩
  | .hbm, ⟨60, _⟩ => ⟨S1024x5632, .f32⟩
  | .hbm, ⟨61, _⟩ => ⟨S1x2816x1024, .f32⟩
  | .hbm, ⟨62, _⟩ => ⟨S2816x1024, .f32⟩
  | .hbm, ⟨63, _⟩ => ⟨S16x256x5632, .f32⟩
  | .hbm, ⟨64, _⟩ => ⟨S16x256x2816, .f32⟩
  | .hbm, ⟨65, _⟩ => ⟨S16x256x2816, .f32⟩
  | .hbm, ⟨66, _⟩ => ⟨S16x256x2816, .f32⟩
  | .hbm, ⟨67, _⟩ => ⟨S16x256x2816, .f32⟩
  | .hbm, ⟨68, _⟩ => ⟨S_, .f32⟩
  | .hbm, ⟨69, _⟩ => ⟨S16x256x2816, .f32⟩
  | .hbm, ⟨70, _⟩ => ⟨S16x256x2816, .f32⟩
  | .hbm, ⟨71, _⟩ => ⟨S_, .f32⟩
  | .hbm, ⟨72, _⟩ => ⟨S16x256x2816, .f32⟩
  | .hbm, ⟨73, _⟩ => ⟨S16x256x2816, .f32⟩
  | .hbm, ⟨74, _⟩ => ⟨S16x256x2816, .f32⟩
  | .hbm, ⟨75, _⟩ => ⟨S16x256x2816, .f32⟩
  | .hbm, ⟨76, _⟩ => ⟨S16x256x1024, .f32⟩
  | .hbm, ⟨77, _⟩ => ⟨S1x1x1024, .f32⟩
  | .hbm, ⟨78, _⟩ => ⟨S16x256x1024, .f32⟩
  | .hbm, ⟨79, _⟩ => ⟨S16x256x1024, .f32⟩
  | .hbm, ⟨80, _⟩ => ⟨S16x256x1024, .f32⟩
  | .hbm, ⟨81, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel8.lean ====
abbrev S24x1024 : Shape := ⟨2, ![24, 1024]⟩
abbrev S4x1024x9216 : Shape := ⟨3, ![4, 1024, 9216]⟩
abbrev S4x9216 : Shape := ⟨2, ![4, 9216]⟩
abbrev S4x9x1x1024 : Shape := ⟨4, ![4, 9, 1, 1024]⟩
abbrev S4x9x24x1024 : Shape := ⟨4, ![4, 9, 24, 1024]⟩
abbrev S1x1024x1024 : Shape := ⟨3, ![1, 1024, 1024]⟩
abbrev S1x1x1x1024 : Shape := ⟨4, ![1, 1, 1, 1024]⟩
abbrev S1x1x24x1024 : Shape := ⟨4, ![1, 1, 24, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S4x1024x9216, .f32⟩
  | .hbm, ⟨2, _⟩ => ⟨S4x9216, .f32⟩
  | .hbm, ⟨3, _⟩ => ⟨S4x9x1x1024, .f32⟩
  | .hbm, ⟨4, _⟩ => ⟨S4x9x24x1024, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x24x1024, .f32⟩
  | .local _ .vmem, ⟨6, _⟩ => ⟨S1x1x24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S24x1024 : Shape := ⟨2, ![24, 1024]⟩
abbrev S4x1024x9216 : Shape := ⟨3, ![4, 1024, 9216]⟩
abbrev S4x9216 : Shape := ⟨2, ![4, 9216]⟩
abbrev S_ : Shape := ⟨0, ![]⟩
abbrev S4x9216x24 : Shape := ⟨3, ![4, 9216, 24]⟩
abbrev S4x24x9216 : Shape := ⟨3, ![4, 24, 9216]⟩
abbrev S4x1x9216 : Shape := ⟨3, ![4, 1, 9216]⟩
abbrev S4x24x9x1024 : Shape := ⟨4, ![4, 24, 9, 1024]⟩
abbrev S4x9x24x1024 : Shape := ⟨4, ![4, 9, 24, 1024]⟩

abbrev nBuf : Space → Nat
  | .hbm => 19
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S4x1024x9216, .f32⟩
  | .hbm, ⟨2, _⟩ => ⟨S4x9216, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S4x9216x24, .f32⟩
  | .hbm, ⟨13, _⟩ => ⟨S4x24x9216, .f32⟩
  | .hbm, ⟨14, _⟩ => ⟨S4x1x9216, .f32⟩
  | .hbm, ⟨15, _⟩ => ⟨S4x24x9216, .f32⟩
  | .hbm, ⟨16, _⟩ => ⟨S4x24x9216, .f32⟩
  | .hbm, ⟨17, _⟩ => ⟨S4x24x9x1024, .f32⟩
  | .hbm, ⟨18, _⟩ => ⟨S4x9x24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.AttnIdealFrame.lean ====
module

public import proofs.«01_k».proof.Proof.Gen.KernelIdeal.Frame.Runs

@[expose] public section

set_option maxRecDepth 16384

/-! The attention call ends, and leaves its arguments as they were. -/

noncomputable section

namespace Cert.KernelIdeal.AttnFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The attention body run on whole staging memrefs: every buffer comes back, the inputs' as they were. -/
theorem bodyRun (c : Dev nD) (i : grid0.Coords) (arg1 : Memref sig .tc .vmem S256x1024 .bf16) (harg1 : arg1.IsWhole) (arg2 : Memref sig .tc .vmem S2048x1024 .bf16) (harg2 : arg2.IsWhole) (arg3 : Memref sig .tc .vmem S1x1024x768 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x8x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S128x128 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S4x2304x128 .bf16) (harg12 : arg12.IsWhole) (arg13 : Memref sig .tc .vmem S4x2304x128 .bf16) (harg13 : arg13.IsWhole) (arg14 : Memref sig .tc .vmem S4x256x128 .bf16) (harg14 : arg14.IsWhole) (arg15 : Memref sig .tc .vmem S4x256x128 .bf16) (harg15 : arg15.IsWhole)
    (x0 : Vec F S256x1024 .bf16) (x1 : Vec F S2048x1024 .bf16) (x2 : Vec F S1x1024x768 .bf16) (x3 : Vec F S1x1x128 .f32) (x4 : Vec F S1x1x128 .f32) (x5 : Vec F S1x8x128 .f32) (x6 : Vec F S2048x128 .f32) (x7 : Vec F S2048x128 .f32) (x8 : Vec F S128x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part30_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

variable (m : (ℓ : Loc nD τ sig) → Buf (Elt F) ℓ) (ρ : Dev nD → PrngReg)

/-- The proof data: each input stays at its block; nothing is stated of the two outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed 9 t
    | ⟨10, _⟩ => Dat.unnamed 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ X, owns (c : Thread nD τ) (ms0_9 t) fullShare X)
    ∗ (∃ X, owns (c : Thread nD τ) (ms0_10 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, owns (c : Thread nD τ) (ms0_9 t) fullShare X)
    ∗ (∃ X, owns (c : Thread nD τ) (ms0_10 t) fullShare X))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply (bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The two output windows, of which nothing is stated. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- Every execution ends, every argument as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)

end Cert.KernelIdeal.AttnFrame

end
-- ==== Proof.AttnClaim.lean ====
module

public import proofs.«01_k».proof.Defs
public import proofs.«01_k».proof.Proof.AttnFrame
public import proofs.«01_k».proof.Proof.AttnIdealFrame
public import proofs.«01_k».proof.Proof.Gen.Kernel
public import proofs.«01_k».proof.Proof.Gen.KernelIdeal
public import proofs.«01_k».proof.Proof.Gen.ReferenceIdeal.Run
public import Idealize.ShloMosaic.Lib.Claim
@[expose] public section
set_option maxRecDepth 16384

/-! The claims about the attention call. -/

noncomputable section
namespace Cert.Proof
open Idealize.ShloMosaic Idealize.SL.Sem

instance factsKernel : Cert.Kernel.Facts := Cert.Kernel.Gen.facts
instance factsKernelIdeal : Cert.KernelIdeal.Facts := Cert.KernelIdeal.Gen.facts
instance factsReferenceIdeal : Cert.ReferenceIdeal.Facts := Cert.ReferenceIdeal.Gen.facts

theorem frame_kernel : Cert.quiescent_Kernel := fun m g _ => Cert.Kernel.AttnFrame.frame m g
theorem frame_kernelIdeal : Cert.quiescent_KernelIdeal := fun m g _ => Cert.KernelIdeal.AttnFrame.frame m g
theorem frame_referenceIdeal : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

end Cert.Proof
-- ==== Proof.AttnValRun.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The attention body run on whole staging memrefs. What its stores leave in the two output blocks is named as lists of
    pieces; the second list reads the padded key and value scratch, so it is a function of what these held before. -/
noncomputable def bodyRun (c : Dev nD) (i : grid0.Coords) (arg1 : Memref sig .tc .vmem S256x1024 .bf16) (harg1 : arg1.IsWhole) (arg2 : Memref sig .tc .vmem S2048x1024 .bf16) (harg2 : arg2.IsWhole) (arg3 : Memref sig .tc .vmem S1x1024x768 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x8x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S128x128 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S4x2304x128 .bf16) (harg12 : arg12.IsWhole) (arg13 : Memref sig .tc .vmem S4x2304x128 .bf16) (harg13 : arg13.IsWhole) (arg14 : Memref sig .tc .vmem S4x256x128 .bf16) (harg14 : arg14.IsWhole) (arg15 : Memref sig .tc .vmem S4x256x128 .bf16) (harg15 : arg15.IsWhole)
    (x0 : Vec F S256x1024 .bf16) (x1 : Vec F S2048x1024 .bf16) (x2 : Vec F S1x1024x768 .bf16) (x3 : Vec F S1x1x128 .f32) (x4 : Vec F S1x1x128 .f32) (x5 : Vec F S1x8x128 .f32) (x6 : Vec F S2048x128 .f32) (x7 : Vec F S2048x128 .f32) (x8 : Vec F S128x128 .bf16) :
    Σ' (L9 : List (View.Piece (Elt F) S256x512 .bf16)), Σ' (L10 : Buf (Elt F) (arg12.view.loc (c : Thread nD τ)) → Buf (Elt F) (arg13.view.loc (c : Thread nD τ)) → List (View.Piece (Elt F) S2048x512 .bf16)), Σ' (LT2 : List (View.Piece (Elt F) S4x256x128 .bf16)), { LT3 : List (View.Piece (Elt F) S4x256x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f f0 f1, arg11.view.loc (c : Thread nD τ) ↦[arg11.view.set]{fullShare} arg11.view.writes (Elt F) f (L10 f0 f1)) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__attn_kernel_eq_skeleton]; unfold cc0__attn_kernel_skel
    simp only [k0_part30_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _, fs0, fs1; iexact H10
    isplitl [HS0]
    · iexists _, _; isplitr; swap; · iexact HS0
      ipureintro; rfl
    isplitl [HS1]
    · iexists _, _; isplitr; swap; · iexact HS1
      ipureintro; rfl
    isplitl [HS2]; · iexists _; iexact HS2
    iexists _; iexact HS3

end Cert.KernelIdeal.Attn

end
-- ==== Proof.AttnMath.lean ====
module

public import Idealize.ShloMosaic.Lib.Pointwise
public import Idealize.ShloMosaic.PureOps.Ideal.Laws
@[expose] public section
set_option maxRecDepth 16384

/-! One attention head of one batch's context rows, as a function of the rows' queries, keys and values. -/

noncomputable section
namespace Attn
open Idealize.ShloMosaic

/-- A head's row scaled to unit mean square, times a gain. -/
def rms (x g : Fin 64 → EReal) (d : Fin 64) : EReal :=
  x d * Ideal.rsqrt (Ideal.div (∑ k : Fin 64, x k * x k) (Ideal.ofBits .f32 0x42800000#32)
      + Ideal.ofBits .f32 0x358637BD#32) * g d

/-- A row of `h` times column `j` of the weights. -/
def proj (h : Fin 1024 → EReal) (w : Fin 1024 → EReal) : EReal := ∑ e : Fin 1024, h e * w e

theorem ninf : Ideal.ofBits .f32 0xFF800000#32 = (⊥ : EReal) := by simp [Ideal.ofBits, Ideal.ieee]

/-- The score of a query row against key row `s`, over the 128 lanes two heads are packed in. -/
def sc (q : Fin 128 → EReal) (K : Fin 256 → Fin 128 → EReal) (s : Fin 256) : EReal := ∑ l : Fin 128, q l * K s l

/-- The maximum of 256 scores, taken as two halves of 128 lanes, and a sink. -/
def mx (q : Fin 128 → EReal) (K : Fin 256 → Fin 128 → EReal) (b : EReal) : EReal :=
  max (Finset.univ.fold max ⊥ fun l : Fin 128 => max (sc q K ⟨l.val, by omega⟩) (sc q K ⟨128 + l.val, by omega⟩)) b

/-- An exponential weight. -/
def wt (q : Fin 128 → EReal) (K : Fin 256 → Fin 128 → EReal) (b : EReal) (s : Fin 256) : EReal :=
  Ideal.exp (sc q K s - mx q K b)

/-- The normaliser, summed as two halves of 128 lanes, with the sink's own weight. -/
def den (q : Fin 128 → EReal) (K : Fin 256 → Fin 128 → EReal) (b : EReal) : EReal :=
  (∑ l : Fin 128, (wt q K b ⟨l.val, by omega⟩ + wt q K b ⟨128 + l.val, by omega⟩)) + Ideal.exp (b - mx q K b)

/-- One head's part of a packed output lane. -/
def part (q : Fin 128 → EReal) (K : Fin 256 → Fin 128 → EReal) (V : Fin 256 → EReal) (b : EReal) : EReal :=
  (∑ s : Fin 256, wt q K b s * V s) * Ideal.div (Ideal.ofBits .f32 0x3F800000#32) (den q K b)

/-- A packed row scaled as two heads, the squares summed by the packing matrix `B` in a high and a low part. -/
def nrm (B : Fin 128 → Fin 128 → EReal) (x g : Fin 128 → EReal) (l : Fin 128) : EReal :=
  x l * Ideal.rsqrt (((∑ k : Fin 128, x k * x k * B k l) + (∑ k : Fin 128, (x k * x k - x k * x k) * B k l))
      * Ideal.ofBits .f32 0x3C800000#32 + Ideal.ofBits .f32 0x358637BD#32) * g l

/-- The 257 logits of a row: 256 scores and the sink. -/
def lg (S : Fin 256 → EReal) (b : EReal) (i : Fin 257) : EReal := if h : i.val < 256 then S ⟨i.val, h⟩ else b

/-- The greatest logit. -/
def smx (S : Fin 256 → EReal) (b : EReal) : EReal :=
  max (Ideal.ofBits .f32 0xFF800000#32) (Finset.univ.fold max (Ideal.ofBits .f32 0xFF800000#32) fun i : Fin 257 => lg S b i)

/-- The values weighted by the softmax of the logits. -/
def soft (S : Fin 256 → EReal) (b : EReal) (v : Fin 256 → EReal) : EReal :=
  ∑ s : Fin 256, v s * Ideal.div (Ideal.exp (lg S b ⟨s.val, by omega⟩ - smx S b)) (∑ j : Fin 257, Ideal.exp (lg S b j - smx S b))

/-- The attention of one batch's rows `X`, the weights given by columns. -/
def attn (X : Fin 256 → Fin 1024 → EReal) (W : Fin 768 → Fin 1024 → EReal) (N : Fin 2 → Fin 64 → EReal) (b : Fin 8 → EReal)
    (r : Fin 256) (l : Fin 512) : EReal :=
  soft (fun s => (∑ d : Fin 64,
        rms (fun k => proj (X s) (W ⟨512 + (l.val / 256 * 64 + k.val), by omega⟩)) (N 1) d
          * rms (fun k => proj (X r) (W ⟨(l.val / 256 * 4 + l.val / 64 % 4) * 64 + k.val, by omega⟩)) (N 0) d)
        * Ideal.ofBits .f32 0x3E000000#32)
    (b ⟨l.val / 256 * 4 + l.val / 64 % 4, by omega⟩)
    (fun s => proj (X s) (W ⟨640 + (l.val / 256 * 64 + l.val % 64), by omega⟩))

end Attn
-- ==== Proof.AttnTile.lean ====
module

public import proofs.«01_k».proof.Proof.Gen.KernelIdeal.Skeleton
public import proofs.«01_k».proof.Proof.AttnMath
@[expose] public section
set_option maxRecDepth 16384

/-! What one 128-lane tile of the attention's output holds, of packed queries, key planes and value planes. -/

noncomputable section
namespace Cert.KernelIdeal.Attn
open Idealize.ShloMosaic
open Cert.KernelIdeal Cert.KernelIdeal.Gen

variable (q : Vec Ideal S256x128 .bf16) (K K' V V' : Vec Ideal S1x256x128 .bf16) (b b' : Vec Ideal S1x1x1 .f32)

/-- The scores of a packed tile against one key plane. -/
theorem sc_at (r s : Fin 256) : k0_pay175 q K (ix2 r s) =
    Attn.sc (fun l => q (ix2 r l)) (fun s l => K (ix3 0 s l)) s := by
  unfold Attn.sc
  pointwise [k0_pay175]

theorem mx_at (r : Fin 256) : k0_pay177 q b K (ix2 r 0) =
    Attn.mx (fun l => q (ix2 r l)) (fun s l => K (ix3 0 s l)) (b (ix3 0 0 0)) := by
  unfold Attn.mx
  pointwise [k0_pay177, k0_pay173, sc_at]
  rw [Attn.ninf]

theorem wt_at (r s : Fin 256) : k0_pay179 q b K (ix2 r s) =
    Attn.wt (fun l => q (ix2 r l)) (fun s l => K (ix3 0 s l)) (b (ix3 0 0 0)) s := by
  unfold Attn.wt
  pointwise [k0_pay179, sc_at, mx_at]

/-- One head's part of a tile. -/
theorem tile0 (r : Fin 256) (l : Fin 128) :
    k0_pay182 (k0_pay173 b) (k0_pay174 b') (k0_pay177 q b K) (k0_pay178 q b' K') (k0_pay179 q b K) (k0_pay180 q b' K')
      (k0_pay181 q b K) V V' (ix2 r l) =
    Attn.part (fun l => q (ix2 r l)) (fun s l => K (ix3 0 s l)) (fun s => V (ix3 0 s l)) (b (ix3 0 0 0))
      + Attn.part (fun l => q (ix2 r l)) (fun s l => K' (ix3 0 s l)) (fun s => V' (ix3 0 s l)) (b' (ix3 0 0 0)) := by
  have h1 : k0_pay178 q b' K' = k0_pay177 q b' K' := rfl
  have h2 : k0_pay180 q b' K' = k0_pay179 q b' K' := rfl
  rw [h1, h2]
  unfold Attn.part Attn.den
  pointwise [k0_pay182, k0_pay181, k0_pay173, k0_pay174, wt_at, mx_at]

theorem tile1_eq :
    k0_pay194 (k0_pay190 q (k0_pay184 b') K') (k0_pay191 q (k0_pay183 b) K) (k0_pay192 q (k0_pay184 b') K')
        (k0_pay193 q (k0_pay183 b) K V) V' =
      k0_pay182 (k0_pay173 b) (k0_pay174 b') (k0_pay177 q b K) (k0_pay178 q b' K') (k0_pay179 q b K) (k0_pay180 q b' K')
        (k0_pay181 q b K) V V' := rfl

theorem tile2_eq :
    k0_pay201 (k0_pay195 b) (k0_pay196 b') (k0_pay197 q K) (k0_pay198 q K') (k0_pay199 q b K) (k0_pay200 q K') V V' =
      k0_pay182 (k0_pay173 b) (k0_pay174 b') (k0_pay177 q b K) (k0_pay178 q b' K') (k0_pay179 q b K) (k0_pay180 q b' K')
        (k0_pay181 q b K) V V' := rfl

theorem tile3_eq :
    k0_pay213 (k0_pay203 b') (k0_pay207 q b' K') (k0_pay208 q b K) (k0_pay209 q b' K') (k0_pay210 q b K)
        (k0_pay211 q b' K') (k0_pay212 q b' K') V V' =
      k0_pay182 (k0_pay173 b) (k0_pay174 b') (k0_pay177 q b K) (k0_pay178 q b' K') (k0_pay179 q b K) (k0_pay180 q b' K')
        (k0_pay181 q b K) V V' := rfl

variable (bd : Vec Ideal S128x128 .bf16) (hc : Vec Ideal S256x1024 .bf16) (w : Vec Ideal S1x1024x256 .bf16)
  (wq : Vec Ideal S1x1024x512 .bf16) (g : Vec Ideal S1x1x128 .f32)

theorem kv_at (r : Fin 256) (j : Fin 256) :
    k0_pay115 hc w (ix2 r j) = Attn.proj (fun e => hc (ix2 r e)) (fun e => w (ix3 0 e j)) := by
  unfold Attn.proj
  pointwise [k0_pay115]

theorem q_at (r : Fin 256) (j : Fin 512) :
    k0_pay159 hc wq (ix2 r j) = Attn.proj (fun e => hc (ix2 r e)) (fun e => wq (ix3 0 e j)) := by
  unfold Attn.proj
  pointwise [k0_pay159]

theorem kn_at (r : Fin 256) (l : Fin 128) :
    k0_pay116 bd hc w g (ix2 r l) = Attn.nrm (fun k l => bd (ix2 k l))
      (fun k => k0_pay115 hc w (ix2 r ⟨k.val, by omega⟩)) (fun k => g (ix3 0 0 k)) l := by
  unfold Attn.nrm
  pointwise [k0_pay116]

theorem q0_at (r : Fin 256) (l : Fin 128) :
    k0_pay160 bd hc wq g (ix2 r l) = Attn.nrm (fun k l => bd (ix2 k l))
      (fun k => k0_pay159 hc wq (ix2 r ⟨k.val, by omega⟩)) (fun k => g (ix3 0 0 k)) l := by
  unfold Attn.nrm
  pointwise [k0_pay160]

theorem q1_at (r : Fin 256) (l : Fin 128) :
    k0_pay167 bd (k0_pay161 hc wq) (k0_pay162 g) (k0_pay165 hc wq) (k0_pay166 bd hc wq) (ix2 r l) =
      Attn.nrm (fun k l => bd (ix2 k l))
      (fun k => k0_pay159 hc wq (ix2 r ⟨128 + k.val, by omega⟩)) (fun k => g (ix3 0 0 k)) l := by
  unfold Attn.nrm
  pointwise [k0_pay161, k0_pay162, k0_pay163, k0_pay164, k0_pay165, k0_pay166, k0_pay167]

theorem q2_at (r : Fin 256) (l : Fin 128) :
    k0_pay168 bd (k0_pay159 hc wq) g (ix2 r l) = Attn.nrm (fun k l => bd (ix2 k l))
      (fun k => k0_pay159 hc wq (ix2 r ⟨256 + k.val, by omega⟩)) (fun k => g (ix3 0 0 k)) l := by
  unfold Attn.nrm
  pointwise [k0_pay168]

theorem q3_at (r : Fin 256) (l : Fin 128) :
    k0_pay172 (k0_pay169 (k0_pay159 hc wq)) (k0_pay170 g) (k0_pay171 bd (k0_pay159 hc wq)) (ix2 r l) =
      Attn.nrm (fun k l => bd (ix2 k l))
      (fun k => k0_pay159 hc wq (ix2 r ⟨384 + k.val, by omega⟩)) (fun k => g (ix3 0 0 k)) l := by
  unfold Attn.nrm
  pointwise [k0_pay169, k0_pay170, k0_pay171, k0_pay172]

theorem lane_lt : ∀ l : Fin 128, IntOp.cmpi .slt (BitVec.ofNat 32 l.val) 64#32 = if l.val < 64 then 1#1 else 0#1 := by
  decide +kernel

theorem sel_at (l : Fin 128) (a b : EReal) :
    Scalar.select (IntOp.cmpi .slt (BitVec.ofNat 32 l.val) 64#32) a b = if l.val < 64 then a else b := by
  rw [lane_lt]
  by_cases h : l.val < 64 <;> simp [h, Scalar.select]

theorem rot_at (x : Vec Ideal S256x128 .f32) (r : Fin 256) (l : Fin 128) :
    dynamicRotate 1 64#32 none x rotates_S256x128_d1 (ix2 r l) = x (ix2 r ⟨(l.val + 128 - 64) % 128, by omega⟩) := by
  pointwise []

theorem K0_at (r : Fin 256) (l : Fin 128) : k0_pay129 (k0_pay120 bd hc w g) (ix3 0 r l) =
    if l.val < 64 then k0_pay116 bd hc w g (ix2 r l) else 0 := by
  pointwise [k0_pay129, k0_pay120, k0_pay118, k0_pay119]
  exact sel_at _ _ _

theorem K1_at (r : Fin 256) (l : Fin 128) : k0_pay131 (k0_pay121 bd hc w g) (ix3 0 r l) =
    if l.val < 64 then 0 else k0_pay116 bd hc w g (ix2 r ⟨(l.val + 128 - 64) % 128, by omega⟩) := by
  pointwise [k0_pay131, k0_pay121, k0_pay118, k0_pay119, k0_pay117, rot_at]
  exact sel_at _ _ _

theorem K2_at (r : Fin 256) (l : Fin 128) : k0_pay133 (k0_pay122 bd hc w g) (ix3 0 r l) =
    if l.val < 64 then k0_pay116 bd hc w g (ix2 r ⟨(l.val + 128 - 64) % 128, by omega⟩) else 0 := by
  pointwise [k0_pay133, k0_pay122, k0_pay118, k0_pay119, k0_pay117, rot_at]
  exact sel_at _ _ _

theorem K3_at (r : Fin 256) (l : Fin 128) : k0_pay135 (k0_pay123 bd hc w g) (ix3 0 r l) =
    if l.val < 64 then 0 else k0_pay116 bd hc w g (ix2 r l) := by
  pointwise [k0_pay135, k0_pay123, k0_pay118, k0_pay119]
  exact sel_at _ _ _

theorem V0_at (r : Fin 256) (l : Fin 128) :
    k0_pay130 (k0_pay124 hc w) k0_pay126 (Scalar.ofBits .f32 0x00000000#32) (ix3 0 r l) =
    if l.val < 64 then k0_pay115 hc w (ix2 r ⟨128 + l.val, by omega⟩) else 0 := by
  pointwise [k0_pay130, k0_pay124, k0_pay126, k0_pay127]
  exact sel_at _ _ _

theorem V1_at (r : Fin 256) (l : Fin 128) :
    k0_pay132 (k0_pay125 hc w) k0_pay126 (Scalar.ofBits .f32 0x00000000#32) (ix3 0 r l) =
    if l.val < 64 then 0 else k0_pay115 hc w (ix2 r ⟨128 + (l.val + 128 - 64) % 128, by omega⟩) := by
  pointwise [k0_pay132, k0_pay125, k0_pay124, k0_pay126, k0_pay127, rot_at]
  exact sel_at _ _ _

theorem V2_at (r : Fin 256) (l : Fin 128) :
    k0_pay134 (k0_pay125 hc w) k0_pay126 (Scalar.ofBits .f32 0x00000000#32) (ix3 0 r l) =
    if l.val < 64 then k0_pay115 hc w (ix2 r ⟨128 + (l.val + 128 - 64) % 128, by omega⟩) else 0 := by
  pointwise [k0_pay134, k0_pay125, k0_pay124, k0_pay126, k0_pay127, rot_at]
  exact sel_at _ _ _

theorem V3_at (r : Fin 256) (l : Fin 128) :
    k0_pay136 (k0_pay128 (k0_pay124 hc w) k0_pay126 (Scalar.ofBits .f32 0x00000000#32)) (ix3 0 r l) =
    if l.val < 64 then 0 else k0_pay115 hc w (ix2 r ⟨128 + l.val, by omega⟩) := by
  pointwise [k0_pay136, k0_pay128, k0_pay124, k0_pay126, k0_pay127]
  exact sel_at _ _ _

end Cert.KernelIdeal.Attn
-- ==== Proof.AttnPack.lean ====
module

public import proofs.«01_k».proof.Proof.AttnMath
@[expose] public section
set_option maxRecDepth 16384

/-! Two heads packed in 128 lanes compute what two heads apart compute, of finite numbers. -/

noncomputable section
namespace Attn
open Idealize.ShloMosaic

/-- A real number, neither infinity. -/
def IsReal (x : EReal) : Prop := ∃ r : ℝ, x = (r : EReal)

theorem IsReal.zero : IsReal 0 := ⟨0, by simp⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type} [Fintype ι] {f : ι → EReal} (h : ∀ i, IsReal (f i)) : IsReal (∑ i, f i) :=
  Finset.sum_induction f IsReal (fun _ _ => IsReal.add) IsReal.zero (fun i _ => h i)

theorem proj_real {h w : Fin 1024 → EReal} (hh : ∀ e, IsReal (h e)) (hw : ∀ e, IsReal (w e)) : IsReal (proj h w) :=
  IsReal.sum fun e => (hh e).mul (hw e)

theorem sub_self_real {x : EReal} (h : IsReal x) : x - x = 0 := by
  obtain ⟨a, rfl⟩ := h; rw [← EReal.coe_sub, sub_self, EReal.coe_zero]

theorem c64 : Ideal.ofBits .f32 0x42800000#32 = ((64 : ℝ) : EReal) := by
  simp [Ideal.ofBits, Ideal.ieee]; norm_cast; norm_num
theorem c64i : Ideal.ofBits .f32 0x3C800000#32 = ((64⁻¹ : ℝ) : EReal) := by
  simp [Ideal.ofBits, Ideal.ieee]; norm_cast; norm_num
theorem c1 : Ideal.ofBits .f32 0x3F800000#32 = (1 : EReal) := by
  simp [Ideal.ofBits, Ideal.ieee]; norm_cast; norm_num
theorem c8 : Ideal.ofBits .f32 0x3E000000#32 = ((8⁻¹ : ℝ) : EReal) := by
  simp [Ideal.ofBits, Ideal.ieee]; norm_cast; norm_num
theorem ceps : ∃ e : ℝ, 0 < e ∧ Ideal.ofBits .f32 0x358637BD#32 = (e : EReal) := by
  refine ⟨_, ?_, by simp only [Ideal.ofBits, Ideal.ieee]; rfl⟩
  norm_num
  rw [if_neg (by decide)]
  positivity

theorem div64 (x : EReal) : Ideal.div x (Ideal.ofBits .f32 0x42800000#32) = x * Ideal.ofBits .f32 0x3C800000#32 := by
  rw [c64, c64i, Ideal.div, if_neg (by simp), EReal.coe_inv]

theorem rsqrt_real {x : ℝ} (h : 0 < x) : IsReal (Ideal.rsqrt (x : EReal)) := by
  refine ⟨(Real.sqrt x)⁻¹, ?_⟩
  show (if x < 0 then (⊥ : EReal) else if x = 0 then ⊤ else ((Real.sqrt x)⁻¹ : ℝ)) = _
  rw [if_neg (not_lt.2 h.le), if_neg h.ne']

theorem sq_nonneg_sum {ι : Type} [Fintype ι] {f : ι → EReal} (h : ∀ i, IsReal (f i)) :
    ∃ r : ℝ, 0 ≤ r ∧ ∑ i, f i * f i = (r : EReal) := by
  refine Finset.sum_induction (fun i => f i * f i) (fun x => ∃ r : ℝ, 0 ≤ r ∧ x = (r : EReal)) ?_ ⟨0, le_rfl, by simp⟩ ?_
  · rintro _ _ ⟨a, ha, rfl⟩ ⟨b, hb, rfl⟩; exact ⟨a + b, add_nonneg ha hb, (EReal.coe_add a b).symm⟩
  · intro i _; obtain ⟨a, e⟩ := h i; exact ⟨a * a, mul_self_nonneg a, by rw [e, EReal.coe_mul]⟩

theorem rms_real {x g : Fin 64 → EReal} (hx : ∀ k, IsReal (x k)) (hg : ∀ k, IsReal (g k)) (d : Fin 64) : IsReal (rms x g d) := by
  unfold rms
  obtain ⟨r, hr, e⟩ := sq_nonneg_sum hx
  obtain ⟨ε, hε, eε⟩ := ceps
  refine ((hx d).mul ?_).mul (hg d)
  rw [div64, e, c64i, eε, ← EReal.coe_mul, ← EReal.coe_add]
  exact rsqrt_real (by positivity)

/-- Lane `d` of half `h`. -/
def lane (h : Fin 2) (d : Fin 64) : Fin 128 := ⟨h.val * 64 + d.val, by omega⟩

theorem lane_sum (f : Fin 128 → EReal) : ∑ k, f k = ∑ k, f (lane 0 k) + ∑ k, f (lane 1 k) := by
  rw [Fin.sum_univ_add (a := 64) (b := 64) f]
  refine congrArg₂ _ (Finset.sum_congr rfl fun k _ => congrArg f (Fin.ext ?_)) (Finset.sum_congr rfl fun k _ => congrArg f (Fin.ext ?_))
  · simp [lane]
  · simp [lane, Nat.add_comm]

theorem lane_div (h : Fin 2) (d : Fin 64) : (lane h d).val / 64 = h.val := by simp only [lane]; omega

/-- The packed normalisation of lane `d` of half `h` is that half's own. -/
theorem nrm_eq {B : Fin 128 → Fin 128 → EReal} (hB : ∀ k l, B k l = if k.val / 64 = l.val / 64 then 1 else 0)
    {x : Fin 128 → EReal} (g : Fin 128 → EReal) (hx : ∀ k, IsReal (x k)) (h : Fin 2) (d : Fin 64) :
    nrm B x g (lane h d) = rms (fun k => x (lane h k)) (fun k => g (lane h k)) d := by
  have hlo : ∑ k : Fin 128, (x k * x k - x k * x k) * B k (lane h d) = 0 :=
    Finset.sum_eq_zero fun k _ => by rw [sub_self_real ((hx k).mul (hx k)), zero_mul]
  have hhi : ∑ k : Fin 128, x k * x k * B k (lane h d) = ∑ k : Fin 64, x (lane h k) * x (lane h k) := by
    rw [lane_sum]
    simp only [hB, lane_div]
    match h with
    | 0 => simp
    | 1 => simp
  unfold nrm rms
  rw [hlo, hhi, add_zero, div64]

theorem sum_mul_const {ι : Type} [Fintype ι] (f : ι → EReal) {c : EReal} (h : 0 ≤ c) (h' : c ≠ ⊤) :
    (∑ i, f i) * c = ∑ i, f i * c := by
  classical
  induction (Finset.univ : Finset ι) using Finset.induction_on with
  | empty => simp
  | insert a s ha ih => rw [Finset.sum_insert ha, Finset.sum_insert ha, EReal.right_distrib_of_nonneg_of_ne_top h h', ih]

theorem exp_real {x : EReal} (h : IsReal x) : ∃ r : ℝ, 0 < r ∧ Ideal.exp x = (r : EReal) := by
  obtain ⟨a, rfl⟩ := h; exact ⟨Real.exp a, Real.exp_pos a, rfl⟩

theorem half_all {p : Fin 256 → Prop} :
    (∀ l : Fin 128, p ⟨l.val, by omega⟩ ∧ p ⟨128 + l.val, by omega⟩) ↔ ∀ s, p s := by
  refine ⟨fun h s => ?_, fun h l => ⟨h _, h _⟩⟩
  by_cases hs : s.val < 128
  · exact (h ⟨s.val, hs⟩).1
  · have := (h ⟨s.val - 128, by omega⟩).2
    have e : (⟨128 + (s.val - 128), by omega⟩ : Fin 256) = s := Fin.ext (by simp; omega)
    simp only [e] at this; exact this

theorem half_sum (f : Fin 256 → EReal) :
    ∑ l : Fin 128, (f ⟨l.val, by omega⟩ + f ⟨128 + l.val, by omega⟩) = ∑ s, f s := by
  rw [Finset.sum_add_distrib, Fin.sum_univ_add (a := 128) (b := 128) f]
  rfl

theorem lg_lt (S : Fin 256 → EReal) (b : EReal) (s : Fin 256) : lg S b ⟨s.val, by omega⟩ = S s := by
  unfold lg; rw [dif_pos s.isLt]

theorem lg_all {S : Fin 256 → EReal} {b : EReal} {p : EReal → Prop} : (∀ i, p (lg S b i)) ↔ (∀ s, p (S s)) ∧ p b := by
  refine ⟨fun h => ⟨fun s => lg_lt S b s ▸ h _, ?_⟩, fun h i => ?_⟩
  · have := h ⟨256, by omega⟩; simpa [lg] using this
  · unfold lg; split
    · exact h.1 _
    · exact h.2

theorem mx_eq (q : Fin 128 → EReal) (K : Fin 256 → Fin 128 → EReal) (b : EReal) : mx q K b = smx (sc q K) b := by
  refine eq_of_forall_ge_iff fun c => ?_
  unfold mx smx
  rw [ninf, max_le_iff, max_le_iff, Finset.fold_max_le, Finset.fold_max_le]
  simp only [bot_le, true_and, Finset.mem_univ, forall_true_left, max_le_iff]
  rw [lg_all (p := (· ≤ c)), half_all (p := fun s => sc q K s ≤ c)]

theorem smx_real {S : Fin 256 → EReal} {b : EReal} (hS : ∀ s, IsReal (S s)) (hb : IsReal b) : IsReal (smx S b) := by
  have h1 : smx S b ≠ ⊤ := by
    refine ne_of_lt ?_
    unfold smx
    rw [ninf, max_lt_iff, Finset.fold_max_lt]
    refine ⟨bot_lt_top, bot_lt_top, fun i _ => ?_⟩
    refine (lg_all (p := (· < ⊤))).2 ⟨fun s => ?_, ?_⟩ i
    · obtain ⟨r, e⟩ := hS s; rw [e]; exact EReal.coe_lt_top r
    · obtain ⟨r, e⟩ := hb; rw [e]; exact EReal.coe_lt_top r
  have h2 : smx S b ≠ ⊥ := by
    have h3 : b ≤ smx S b := by
      have := (lg_all (S := S) (b := b) (p := (· ≤ smx S b))).1 (fun i =>
        le_max_of_le_right ((Finset.le_fold_max _).2 (Or.inr ⟨i, Finset.mem_univ _, le_rfl⟩)))
      exact this.2
    obtain ⟨r, e⟩ := hb
    rw [e] at h3
    exact ne_of_gt (lt_of_lt_of_le (EReal.bot_lt_coe r) (e ▸ h3))
  exact ⟨(smx S b).toReal, (EReal.coe_toReal h1 h2).symm⟩

theorem lg_sum (S : Fin 256 → EReal) (b : EReal) (f : EReal → EReal) :
    ∑ j : Fin 257, f (lg S b j) = (∑ s, f (S s)) + f b := by
  rw [Fin.sum_univ_castSucc (n := 256)]
  refine congrArg₂ _ (Finset.sum_congr rfl fun s _ => congrArg f (lg_lt S b s)) ?_
  simp [lg]

/-- A head's part with finite scores, sink and values is the softmax-weighted sum. -/
theorem part_eq {q : Fin 128 → EReal} {K : Fin 256 → Fin 128 → EReal} {V : Fin 256 → EReal} {b : EReal}
    (hS : ∀ s, IsReal (sc q K s)) (hb : IsReal b) : part q K V b = soft (sc q K) b V := by
  have hM := smx_real hS hb
  unfold part soft den wt
  rw [half_sum (fun s => Ideal.exp (sc q K s - mx q K b)), mx_eq,
    lg_sum (sc q K) b (fun x => Ideal.exp (x - smx (sc q K) b))]
  obtain ⟨D, hD, eD⟩ : ∃ r : ℝ, 0 < r ∧
      (∑ s, Ideal.exp (sc q K s - smx (sc q K) b)) + Ideal.exp (b - smx (sc q K) b) = (r : EReal) := by
    obtain ⟨u, hu, eu⟩ := exp_real (hb.sub hM)
    obtain ⟨v, hv, ev⟩ : ∃ r : ℝ, 0 ≤ r ∧ ∑ s, Ideal.exp (sc q K s - smx (sc q K) b) = (r : EReal) := by
      refine Finset.sum_induction _ (fun x => ∃ r : ℝ, 0 ≤ r ∧ x = (r : EReal)) ?_ ⟨0, le_rfl, by simp⟩ ?_
      · rintro _ _ ⟨a, ha, rfl⟩ ⟨c, hc, rfl⟩; exact ⟨a + c, add_nonneg ha hc, (EReal.coe_add a c).symm⟩
      · intro s _
        obtain ⟨a, ha, e⟩ := exp_real ((hS s).sub hM)
        exact ⟨a, ha.le, e⟩
    exact ⟨v + u, by positivity, by rw [ev, eu, EReal.coe_add]⟩
  rw [eD, c1]
  have hd : ∀ x : EReal, Ideal.div x (D : EReal) = x * ((D⁻¹ : ℝ) : EReal) := fun x => by
    rw [Ideal.div, if_neg (by simpa using hD.ne'), EReal.coe_inv]
  simp only [hd, one_mul]
  rw [sum_mul_const _ (by exact_mod_cast (inv_pos.2 hD).le) (EReal.coe_ne_top _)]
  refine Finset.sum_congr rfl fun s _ => ?_
  rw [lg_lt]
  ac_rfl

theorem part_zero {q : Fin 128 → EReal} {K : Fin 256 → Fin 128 → EReal} {V : Fin 256 → EReal} {b : EReal}
    (h : ∀ s, V s = 0) : part q K V b = 0 := by
  unfold part
  rw [Finset.sum_eq_zero fun s _ => by rw [h, mul_zero], zero_mul]

/-- The scores against a plane that is one half's keys and zero on the other half. -/
theorem sc_eq {q : Fin 128 → EReal} {K : Fin 256 → Fin 128 → EReal} {kn : Fin 256 → Fin 64 → EReal} {qn : Fin 64 → EReal}
    (h : Fin 2) (hK : ∀ s h' d, K s (lane h' d) = if h' = h then kn s d else 0)
    (hq : ∀ d, q (lane h d) = qn d * Ideal.ofBits .f32 0x3E000000#32) (s : Fin 256) :
    sc q K s = (∑ d, kn s d * qn d) * Ideal.ofBits .f32 0x3E000000#32 := by
  unfold sc
  rw [sum_mul_const _ (by rw [c8]; exact_mod_cast (by norm_num)) (by rw [c8]; exact EReal.coe_ne_top _), lane_sum]
  simp only [hK]
  match h, hq with
  | 0, hq =>
    simp only [hq]
    simp
    exact Finset.sum_congr rfl fun d _ => by ac_rfl
  | 1, hq =>
    simp only [hq]
    simp
    exact Finset.sum_congr rfl fun d _ => by ac_rfl

/-- A packed tile's lane is its own head's attention. -/
theorem tile_eq {B : Fin 128 → Fin 128 → EReal} (hB : ∀ k l, B k l = if k.val / 64 = l.val / 64 then 1 else 0)
    {x g : Fin 128 → EReal} {N : Fin 64 → EReal} {K K' V V' : Fin 256 → Fin 128 → EReal} {kn vn : Fin 256 → Fin 64 → EReal}
    {b b' : EReal} (hx : ∀ k, IsReal (x k)) (hN : ∀ d, IsReal (N d))
    (hg : ∀ h d, g (lane h d) = N d * Ideal.ofBits .f32 0x3E000000#32)
    (hK : ∀ s h' d, K s (lane h' d) = if h' = 0 then kn s d else 0)
    (hK' : ∀ s h' d, K' s (lane h' d) = if h' = 1 then kn s d else 0)
    (hV : ∀ s h' d, V s (lane h' d) = if h' = 0 then vn s d else 0)
    (hV' : ∀ s h' d, V' s (lane h' d) = if h' = 1 then vn s d else 0)
    (hkn : ∀ s d, IsReal (kn s d)) (hb : IsReal b) (hb' : IsReal b') (h : Fin 2) (d : Fin 64) :
    part (nrm B x g) K (fun s => V s (lane h d)) b + part (nrm B x g) K' (fun s => V' s (lane h d)) b' =
      soft (fun s => (∑ d, kn s d * rms (fun k => x (lane h k)) N d) * Ideal.ofBits .f32 0x3E000000#32)
        (if h = 0 then b else b') (fun s => vn s d) := by
  have hq : ∀ h d, nrm B x g (lane h d) = rms (fun k => x (lane h k)) N d * Ideal.ofBits .f32 0x3E000000#32 := fun h d => by
    rw [nrm_eq hB g hx]
    unfold rms
    beta_reduce
    rw [hg, ← mul_assoc]
  have hS : ∀ h s, IsReal ((∑ d, kn s d * rms (fun k => x (lane h k)) N d) * Ideal.ofBits .f32 0x3E000000#32) := fun h s =>
    (IsReal.sum fun d => (hkn s d).mul (rms_real (fun k => hx _) hN d)).mul ⟨_, c8⟩
  match h with
  | 0 =>
    have e := funext (sc_eq 0 hK (hq 0))
    rw [part_zero (V := fun s => V' s (lane 0 d)) (fun s => by rw [hV', if_neg (by decide)]), add_zero,
      part_eq (fun s => by rw [e]; exact hS 0 s) hb, e, if_pos rfl]
    exact congrArg _ (funext fun s => by rw [hV, if_pos rfl])
  | 1 =>
    have e := funext (sc_eq 1 hK' (hq 1))
    rw [part_zero (V := fun s => V s (lane 1 d)) (fun s => by rw [hV, if_neg (by decide)]), zero_add,
      part_eq (fun s => by rw [e]; exact hS 1 s) hb', e, if_neg (by decide)]
    exact congrArg _ (funext fun s => by rw [hV', if_pos rfl])

/-- The normalised key of row `s` for key head `g`. -/
def kn (X : Fin 256 → Fin 1024 → EReal) (W : Fin 768 → Fin 1024 → EReal) (N : Fin 2 → Fin 64 → EReal)
    (g : Fin 2) (s : Fin 256) (d : Fin 64) : EReal :=
  rms (fun k => proj (X s) (W ⟨512 + (g.val * 64 + k.val), by omega⟩)) (N 1) d

/-- The value of row `s` for key head `g`. -/
def vn (X : Fin 256 → Fin 1024 → EReal) (W : Fin 768 → Fin 1024 → EReal) (g : Fin 2) (s : Fin 256) (d : Fin 64) : EReal :=
  proj (X s) (W ⟨640 + (g.val * 64 + d.val), by omega⟩)

/-- Tile `j`'s lanes are the attention's columns. -/
theorem assemble {X : Fin 256 → Fin 1024 → EReal} {W : Fin 768 → Fin 1024 → EReal} {N : Fin 2 → Fin 64 → EReal}
    {b : Fin 8 → EReal} (hX : ∀ s e, IsReal (X s e)) (hW : ∀ j e, IsReal (W j e)) (hN : ∀ i d, IsReal (N i d))
    (hb : ∀ h, IsReal (b h)) {B : Fin 128 → Fin 128 → EReal}
    (hB : ∀ k l, B k l = if k.val / 64 = l.val / 64 then 1 else 0) (j : Fin 4) (r : Fin 256) {x g : Fin 128 → EReal}
    (hx : ∀ k, x k = proj (X r) (W ⟨j.val * 128 + k.val, by omega⟩))
    (hg : ∀ h d, g (lane h d) = N 0 d * Ideal.ofBits .f32 0x3E000000#32)
    {K K' V V' : Fin 256 → Fin 128 → EReal} (i : Fin 2) (hi : j.val / 2 = i.val)
    (hK : ∀ s h' d, K s (lane h' d) = if h' = 0 then kn X W N i s d else 0)
    (hK' : ∀ s h' d, K' s (lane h' d) = if h' = 1 then kn X W N i s d else 0)
    (hV : ∀ s h' d, V s (lane h' d) = if h' = 0 then vn X W i s d else 0)
    (hV' : ∀ s h' d, V' s (lane h' d) = if h' = 1 then vn X W i s d else 0)
    {u u' : EReal} (hu : u = b ⟨2 * j.val, by omega⟩) (hu' : u' = b ⟨2 * j.val + 1, by omega⟩) (l : Fin 128) :
    part (nrm B x g) K (fun s => V s l) u + part (nrm B x g) K' (fun s => V' s l) u' =
      attn X W N b r ⟨j.val * 128 + l.val, by omega⟩ := by
  obtain ⟨h, d, rfl⟩ : ∃ h d, l = lane h d :=
    ⟨⟨l.val / 64, by omega⟩, ⟨l.val % 64, by omega⟩, Fin.ext (by simp only [lane]; omega)⟩
  have hxr : ∀ k, IsReal (x k) := fun k => by rw [hx]; exact proj_real (hX r) (hW _)
  have hkr : ∀ s d, IsReal (kn X W N i s d) := fun s d => rms_real (fun k => proj_real (hX s) (hW _)) (hN 1) d
  rw [tile_eq hB hxr (hN 0) hg hK hK' hV hV' hkr (hu ▸ hb _) (hu' ▸ hb _) h d]
  have e5 : (if h = 0 then u else u') = b ⟨2 * j.val + h.val, by omega⟩ := by
    match h with
    | 0 => rw [if_pos rfl, hu]; rfl
    | 1 => rw [if_neg (by decide), hu']; rfl
  rw [e5]
  unfold attn
  have e1 : (j.val * 128 + (lane h d).val) / 256 = i.val := by simp only [lane]; omega
  have e2 : i.val * 4 + (j.val * 128 + (lane h d).val) / 64 % 4 = 2 * j.val + h.val := by simp only [lane]; omega
  have e3 : (j.val * 128 + (lane h d).val) % 64 = d.val := by simp only [lane]; omega
  simp only [e1, e2, e3, hx]
  unfold kn vn
  have e4 : (fun k : Fin 64 => proj (X r) (W ⟨j.val * 128 + (lane h k).val, by omega⟩)) =
      fun k : Fin 64 => proj (X r) (W ⟨(2 * j.val + h.val) * 64 + k.val, by omega⟩) :=
    funext fun k => congrArg (fun z => proj (X r) (W z)) (Fin.ext (by simp only [lane]; omega))
  rw [e4]

end Attn
-- ==== Proof.AttnPlanes.lean ====
module

public import proofs.«01_k».proof.Proof.AttnTile
public import proofs.«01_k».proof.Proof.AttnPack
@[expose] public section
set_option maxRecDepth 16384

/-! The key and value planes of the attention's body, each one key head on one half of the lanes. -/

noncomputable section
namespace Cert.KernelIdeal.Attn
open Idealize.ShloMosaic
open Cert.KernelIdeal Cert.KernelIdeal.Gen
open _root_.Attn (lane kn vn IsReal)

theorem kv_lt (j : Fin 256) : 512 + j.val < 768 := by omega

variable {X : Fin 256 → Fin 1024 → EReal} {W : Fin 768 → Fin 1024 → EReal} {N : Fin 2 → Fin 64 → EReal}
  {bd : Vec Ideal S128x128 .bf16} {hc : Vec Ideal S256x1024 .bf16} {w : Vec Ideal S1x1024x256 .bf16} {g : Vec Ideal S1x1x128 .f32}
  (hX : ∀ s e, IsReal (X s e)) (hW : ∀ j e, IsReal (W j e))
  (hbd : ∀ k l : Fin 128, bd (ix2 k l) = if k.val / 64 = l.val / 64 then 1 else 0)
  (hhc : ∀ s e, hc (ix2 s e) = X s e)
  (hw : ∀ (e : Fin 1024) (j : Fin 256), w (ix3 0 e j) = W ⟨512 + j.val, kv_lt j⟩ e)
  (hg : ∀ h d, g (ix3 0 0 (lane h d)) = N 1 d)

include hhc hw in
theorem kv_lane (s : Fin 256) (j : Fin 256) :
    k0_pay115 hc w (ix2 s j) = _root_.Attn.proj (X s) (W ⟨512 + j.val, by omega⟩) := by
  rw [kv_at]
  simp only [hhc, hw]

include hX hW hbd hhc hw hg in
theorem key_lane (s : Fin 256) (h : Fin 2) (d : Fin 64) : k0_pay116 bd hc w g (ix2 s (lane h d)) = kn X W N h s d := by
  rw [kn_at, _root_.Attn.nrm_eq hbd _ (fun k => by
    rw [kv_lane hhc hw]; exact _root_.Attn.proj_real (hX _) (hW _))]
  simp only [kv_lane hhc hw, hg]
  rfl

include hhc hw in
theorem val_lane (s : Fin 256) (h : Fin 2) (d : Fin 64) :
    k0_pay115 hc w (ix2 s ⟨128 + (lane h d).val, by omega⟩) = vn X W h s d := by
  rw [kv_lane hhc hw]
  exact congrArg (fun z => _root_.Attn.proj (X s) (W z)) (Fin.ext (by simp only [lane]; omega))

theorem lane_rot0 (d : Fin 64) : (⟨((lane 0 d).val + 128 - 64) % 128, by omega⟩ : Fin 128) = lane 1 d :=
  Fin.ext (by simp [lane]; omega)
theorem lane_rot1 (d : Fin 64) : (⟨((lane 1 d).val + 128 - 64) % 128, by omega⟩ : Fin 128) = lane 0 d :=
  Fin.ext (by simp [lane]; omega)
theorem lane_rotv0 (d : Fin 64) : (⟨128 + ((lane 0 d).val + 128 - 64) % 128, by omega⟩ : Fin 256) = ⟨128 + (lane 1 d).val, by omega⟩ :=
  Fin.ext (by simp [lane]; omega)
theorem lane_rotv1 (d : Fin 64) : (⟨128 + ((lane 1 d).val + 128 - 64) % 128, by omega⟩ : Fin 256) = ⟨128 + (lane 0 d).val, by omega⟩ :=
  Fin.ext (by simp [lane]; omega)
theorem lane0_lt (d : Fin 64) : (lane 0 d).val < 64 := by simp [lane]
theorem lane1_lt (d : Fin 64) : ¬ (lane 1 d).val < 64 := by simp [lane]

include hX hW hbd hhc hw hg in
theorem key0 (s : Fin 256) (h' : Fin 2) (d : Fin 64) : k0_pay129 (k0_pay120 bd hc w g) (ix3 0 s (lane h' d)) =
    if h' = 0 then kn X W N 0 s d else 0 := by
  match h' with
  | 0 => rw [K0_at, if_pos (lane0_lt d), key_lane hX hW hbd hhc hw hg, if_pos rfl]
  | 1 => rw [K0_at, if_neg (lane1_lt d), if_neg (by decide)]

include hX hW hbd hhc hw hg in
theorem key1 (s : Fin 256) (h' : Fin 2) (d : Fin 64) : k0_pay131 (k0_pay121 bd hc w g) (ix3 0 s (lane h' d)) =
    if h' = 1 then kn X W N 0 s d else 0 := by
  match h' with
  | 0 => rw [K1_at, if_pos (lane0_lt d), if_neg (by decide)]
  | 1 => rw [K1_at, if_neg (lane1_lt d), lane_rot1, key_lane hX hW hbd hhc hw hg, if_pos rfl]

include hX hW hbd hhc hw hg in
theorem key2 (s : Fin 256) (h' : Fin 2) (d : Fin 64) : k0_pay133 (k0_pay122 bd hc w g) (ix3 0 s (lane h' d)) =
    if h' = 0 then kn X W N 1 s d else 0 := by
  match h' with
  | 0 => rw [K2_at, if_pos (lane0_lt d), lane_rot0, key_lane hX hW hbd hhc hw hg, if_pos rfl]
  | 1 => rw [K2_at, if_neg (lane1_lt d), if_neg (by decide)]

include hX hW hbd hhc hw hg in
theorem key3 (s : Fin 256) (h' : Fin 2) (d : Fin 64) : k0_pay135 (k0_pay123 bd hc w g) (ix3 0 s (lane h' d)) =
    if h' = 1 then kn X W N 1 s d else 0 := by
  match h' with
  | 0 => rw [K3_at, if_pos (lane0_lt d), if_neg (by decide)]
  | 1 => rw [K3_at, if_neg (lane1_lt d), key_lane hX hW hbd hhc hw hg, if_pos rfl]

include hhc hw in
theorem val0 (s : Fin 256) (h' : Fin 2) (d : Fin 64) : k0_pay130 (k0_pay124 hc w) k0_pay126 (Scalar.ofBits .f32 0x00000000#32) (ix3 0 s (lane h' d)) =
    if h' = 0 then vn X W 0 s d else 0 := by
  match h' with
  | 0 => rw [V0_at, if_pos (lane0_lt d), val_lane hhc hw, if_pos rfl]
  | 1 => rw [V0_at, if_neg (lane1_lt d), if_neg (by decide)]

include hhc hw in
theorem val1 (s : Fin 256) (h' : Fin 2) (d : Fin 64) : k0_pay132 (k0_pay125 hc w) k0_pay126 (Scalar.ofBits .f32 0x00000000#32) (ix3 0 s (lane h' d)) =
    if h' = 1 then vn X W 0 s d else 0 := by
  match h' with
  | 0 => rw [V1_at, if_pos (lane0_lt d), if_neg (by decide)]
  | 1 => rw [V1_at, if_neg (lane1_lt d), lane_rotv1, val_lane hhc hw, if_pos rfl]

include hhc hw in
theorem val2 (s : Fin 256) (h' : Fin 2) (d : Fin 64) : k0_pay134 (k0_pay125 hc w) k0_pay126 (Scalar.ofBits .f32 0x00000000#32) (ix3 0 s (lane h' d)) =
    if h' = 0 then vn X W 1 s d else 0 := by
  match h' with
  | 0 => rw [V2_at, if_pos (lane0_lt d), lane_rotv0, val_lane hhc hw, if_pos rfl]
  | 1 => rw [V2_at, if_neg (lane1_lt d), if_neg (by decide)]

include hhc hw in
theorem val3 (s : Fin 256) (h' : Fin 2) (d : Fin 64) : k0_pay136 (k0_pay128 (k0_pay124 hc w) k0_pay126 (Scalar.ofBits .f32 0x00000000#32)) (ix3 0 s (lane h' d)) =
    if h' = 1 then vn X W 1 s d else 0 := by
  match h' with
  | 0 => rw [V3_at, if_pos (lane0_lt d), if_neg (by decide)]
  | 1 => rw [V3_at, if_neg (lane1_lt d), val_lane hhc hw, if_pos rfl]

end Cert.KernelIdeal.Attn
-- ==== Proof.AttnReads.lean ====
module

public import proofs.«01_k».proof.Proof.AttnValRun
public import proofs.«01_k».proof.Proof.AttnTile
public import Idealize.ShloMosaic.Lib.Pipeline.ValueKit
@[expose] public section
set_option maxRecDepth 16384

/-! What the attention's body reads back: slices of its blocks and planes of its scratch. -/

noncomputable section
namespace Cert.KernelIdeal.Attn
open Idealize.ShloMosaic Idealize.ShloMosaic.TcCoe Idealize.SL.Sem
open Cert.KernelIdeal Cert.KernelIdeal.Gen

/-- The contents four written planes leave. -/
theorem canon4 (P0 P1 P2 P3 : Vec Ideal S1x256x128 .bf16) (y : S4x256x128.Idx) :
    View.canon (Val := Elt Ideal) [⟨Rect.unit (s := S4x256x128) ![3, 0, 0] S1x256x128.size inb_S4x256x128_S1x256x128_3_0_0, P3⟩, ⟨Rect.unit (s := S4x256x128) ![2, 0, 0] S1x256x128.size inb_S4x256x128_S1x256x128_2_0_0, P2⟩, ⟨Rect.unit (s := S4x256x128) ![1, 0, 0] S1x256x128.size inb_S4x256x128_S1x256x128_1_0_0, P1⟩, ⟨Rect.unit (s := S4x256x128) ![0, 0, 0] S1x256x128.size inb_S4x256x128_S1x256x128_0_0_0, P0⟩] y = (![P0, P1, P2, P3] : Fin 4 → Vec Ideal S1x256x128 .bf16) (y 0) (ix3 0 (y 1) (y 2)) := by
  refine View.canon_apply_of_pieces (Val := Elt Ideal) (e := .bf16)
    (fun y : S4x256x128.Idx => (![P0, P1, P2, P3] : Fin 4 → Vec Ideal S1x256x128 .bf16) (y 0) (ix3 0 (y 1) (y 2))) _ ?_ y ?_
  · simp only [List.mem_cons, forall_eq_or_imp, List.not_mem_nil, false_imp_iff, implies_true, and_true]
    refine ⟨fun x => ?_, fun x => ?_, fun x => ?_, fun x => ?_⟩
    · idx_vars x
      have e : (Rect.unit (s := S4x256x128) ![3, 0, 0] S1x256x128.size inb_S4x256x128_S1x256x128_3_0_0).emb (ix3 x0 x1 x2) = ix3 3 x1 x2 := by blk_ext
      obtain rfl : x0 = 0 := Subsingleton.elim _ _
      exact (congrArg (fun y : S4x256x128.Idx => (![P0, P1, P2, P3] : Fin 4 → Vec Ideal S1x256x128 .bf16) (y 0) (ix3 0 (y 1) (y 2))) e).symm
    · idx_vars x
      have e : (Rect.unit (s := S4x256x128) ![2, 0, 0] S1x256x128.size inb_S4x256x128_S1x256x128_2_0_0).emb (ix3 x0 x1 x2) = ix3 2 x1 x2 := by blk_ext
      obtain rfl : x0 = 0 := Subsingleton.elim _ _
      exact (congrArg (fun y : S4x256x128.Idx => (![P0, P1, P2, P3] : Fin 4 → Vec Ideal S1x256x128 .bf16) (y 0) (ix3 0 (y 1) (y 2))) e).symm
    · idx_vars x
      have e : (Rect.unit (s := S4x256x128) ![1, 0, 0] S1x256x128.size inb_S4x256x128_S1x256x128_1_0_0).emb (ix3 x0 x1 x2) = ix3 1 x1 x2 := by blk_ext
      obtain rfl : x0 = 0 := Subsingleton.elim _ _
      exact (congrArg (fun y : S4x256x128.Idx => (![P0, P1, P2, P3] : Fin 4 → Vec Ideal S1x256x128 .bf16) (y 0) (ix3 0 (y 1) (y 2))) e).symm
    · idx_vars x
      have e : (Rect.unit (s := S4x256x128) ![0, 0, 0] S1x256x128.size inb_S4x256x128_S1x256x128_0_0_0).emb (ix3 x0 x1 x2) = ix3 0 x1 x2 := by blk_ext
      obtain rfl : x0 = 0 := Subsingleton.elim _ _
      exact (congrArg (fun y : S4x256x128.Idx => (![P0, P1, P2, P3] : Fin 4 → Vec Ideal S1x256x128 .bf16) (y 0) (ix3 0 (y 1) (y 2))) e).symm
  · exact View.cover_of_tiledL (s := S4x256x128) _ ![1, 256, 128] (by rfl) y

theorem cov0 (a : Memref sig .tc .vmem S4x256x128 .bf16) (P0 P1 P2 P3 : Vec Ideal S1x256x128 .bf16) (s : Fin 256) (l : Fin 128) :
    a.view.readCov (Val := Elt Ideal) [⟨Rect.unit (s := S4x256x128) ![3, 0, 0] S1x256x128.size inb_S4x256x128_S1x256x128_3_0_0, P3⟩, ⟨Rect.unit (s := S4x256x128) ![2, 0, 0] S1x256x128.size inb_S4x256x128_S1x256x128_2_0_0, P2⟩, ⟨Rect.unit (s := S4x256x128) ![1, 0, 0] S1x256x128.size inb_S4x256x128_S1x256x128_1_0_0, P1⟩, ⟨Rect.unit (s := S4x256x128) ![0, 0, 0] S1x256x128.size inb_S4x256x128_S1x256x128_0_0_0, P0⟩]
      (Rect.unit (s := S4x256x128) ![0, 0, 0] S1x256x128.size inb_S4x256x128_S1x256x128_0_0_0).toLoadRect (ix3 0 s l) = P0 (ix3 0 s l) := by
  rw [View.readCov_eq_canon']
  refine (canon4 P0 P1 P2 P3 ((Rect.unit (s := S4x256x128) ![0, 0, 0] S1x256x128.size inb_S4x256x128_S1x256x128_0_0_0).emb (ix3 0 s l))).trans ?_
  rw [show (Rect.unit (s := S4x256x128) ![0, 0, 0] S1x256x128.size inb_S4x256x128_S1x256x128_0_0_0).emb (ix3 0 s l) = ix3 0 s l by blk_ext]
  rfl

theorem cov1 (a : Memref sig .tc .vmem S4x256x128 .bf16) (P0 P1 P2 P3 : Vec Ideal S1x256x128 .bf16) (s : Fin 256) (l : Fin 128) :
    a.view.readCov (Val := Elt Ideal) [⟨Rect.unit (s := S4x256x128) ![3, 0, 0] S1x256x128.size inb_S4x256x128_S1x256x128_3_0_0, P3⟩, ⟨Rect.unit (s := S4x256x128) ![2, 0, 0] S1x256x128.size inb_S4x256x128_S1x256x128_2_0_0, P2⟩, ⟨Rect.unit (s := S4x256x128) ![1, 0, 0] S1x256x128.size inb_S4x256x128_S1x256x128_1_0_0, P1⟩, ⟨Rect.unit (s := S4x256x128) ![0, 0, 0] S1x256x128.size inb_S4x256x128_S1x256x128_0_0_0, P0⟩]
      (Rect.unit (s := S4x256x128) ![1, 0, 0] S1x256x128.size inb_S4x256x128_S1x256x128_1_0_0).toLoadRect (ix3 0 s l) = P1 (ix3 0 s l) := by
  rw [View.readCov_eq_canon']
  refine (canon4 P0 P1 P2 P3 ((Rect.unit (s := S4x256x128) ![1, 0, 0] S1x256x128.size inb_S4x256x128_S1x256x128_1_0_0).emb (ix3 0 s l))).trans ?_
  rw [show (Rect.unit (s := S4x256x128) ![1, 0, 0] S1x256x128.size inb_S4x256x128_S1x256x128_1_0_0).emb (ix3 0 s l) = ix3 1 s l by blk_ext]
  rfl

theorem cov2 (a : Memref sig .tc .vmem S4x256x128 .bf16) (P0 P1 P2 P3 : Vec Ideal S1x256x128 .bf16) (s : Fin 256) (l : Fin 128) :
    a.view.readCov (Val := Elt Ideal) [⟨Rect.unit (s := S4x256x128) ![3, 0, 0] S1x256x128.size inb_S4x256x128_S1x256x128_3_0_0, P3⟩, ⟨Rect.unit (s := S4x256x128) ![2, 0, 0] S1x256x128.size inb_S4x256x128_S1x256x128_2_0_0, P2⟩, ⟨Rect.unit (s := S4x256x128) ![1, 0, 0] S1x256x128.size inb_S4x256x128_S1x256x128_1_0_0, P1⟩, ⟨Rect.unit (s := S4x256x128) ![0, 0, 0] S1x256x128.size inb_S4x256x128_S1x256x128_0_0_0, P0⟩]
      (Rect.unit (s := S4x256x128) ![2, 0, 0] S1x256x128.size inb_S4x256x128_S1x256x128_2_0_0).toLoadRect (ix3 0 s l) = P2 (ix3 0 s l) := by
  rw [View.readCov_eq_canon']
  refine (canon4 P0 P1 P2 P3 ((Rect.unit (s := S4x256x128) ![2, 0, 0] S1x256x128.size inb_S4x256x128_S1x256x128_2_0_0).emb (ix3 0 s l))).trans ?_
  rw [show (Rect.unit (s := S4x256x128) ![2, 0, 0] S1x256x128.size inb_S4x256x128_S1x256x128_2_0_0).emb (ix3 0 s l) = ix3 2 s l by blk_ext]
  rfl

theorem cov3 (a : Memref sig .tc .vmem S4x256x128 .bf16) (P0 P1 P2 P3 : Vec Ideal S1x256x128 .bf16) (s : Fin 256) (l : Fin 128) :
    a.view.readCov (Val := Elt Ideal) [⟨Rect.unit (s := S4x256x128) ![3, 0, 0] S1x256x128.size inb_S4x256x128_S1x256x128_3_0_0, P3⟩, ⟨Rect.unit (s := S4x256x128) ![2, 0, 0] S1x256x128.size inb_S4x256x128_S1x256x128_2_0_0, P2⟩, ⟨Rect.unit (s := S4x256x128) ![1, 0, 0] S1x256x128.size inb_S4x256x128_S1x256x128_1_0_0, P1⟩, ⟨Rect.unit (s := S4x256x128) ![0, 0, 0] S1x256x128.size inb_S4x256x128_S1x256x128_0_0_0, P0⟩]
      (Rect.unit (s := S4x256x128) ![3, 0, 0] S1x256x128.size inb_S4x256x128_S1x256x128_3_0_0).toLoadRect (ix3 0 s l) = P3 (ix3 0 s l) := by
  rw [View.readCov_eq_canon']
  refine (canon4 P0 P1 P2 P3 ((Rect.unit (s := S4x256x128) ![3, 0, 0] S1x256x128.size inb_S4x256x128_S1x256x128_3_0_0).emb (ix3 0 s l))).trans ?_
  rw [show (Rect.unit (s := S4x256x128) ![3, 0, 0] S1x256x128.size inb_S4x256x128_S1x256x128_3_0_0).emb (ix3 0 s l) = ix3 3 s l by blk_ext]
  rfl

theorem rdh (a : Memref sig .tc .vmem S256x1024 .bf16) (h : a.IsWhole) (x : Vec Ideal S256x1024 .bf16) (r : Fin 256) (e : Fin 1024) :
    View.readAt (Elt Ideal) a.view (Rect.unit (s := S256x1024) ![0, 0] S256x1024.size inb_S256x1024_S256x1024_0_0).toLoadRect (h.unread x) (ix2 r e) = x (ix2 r e) := by
  rw [View.readAt_eq_ld, h.read_unread]
  exact congrArg x (show (Rect.unit (s := S256x1024) ![0, 0] S256x1024.size inb_S256x1024_S256x1024_0_0).emb (ix2 r e) = ix2 r e by blk_ext)

theorem rdb (a : Memref sig .tc .vmem S128x128 .bf16) (h : a.IsWhole) (x : Vec Ideal S128x128 .bf16) (r e : Fin 128) :
    View.readAt (Elt Ideal) a.view (Rect.unit (s := S128x128) ![0, 0] S128x128.size inb_S128x128_S128x128_0_0).toLoadRect (h.unread x) (ix2 r e) = x (ix2 r e) := by
  rw [View.readAt_eq_ld, h.read_unread]
  exact congrArg x (show (Rect.unit (s := S128x128) ![0, 0] S128x128.size inb_S128x128_S128x128_0_0).emb (ix2 r e) = ix2 r e by blk_ext)

theorem rdq (a : Memref sig .tc .vmem S1x1024x768 .bf16) (h : a.IsWhole) (x : Vec Ideal S1x1024x768 .bf16) (e : Fin 1024) (j : Fin 512) :
    View.readAt (Elt Ideal) a.view (Rect.unit (s := S1x1024x768) ![0, 0, 0] S1x1024x512.size inb_S1x1024x768_S1x1024x512_0_0_0).toLoadRect (h.unread x) (ix3 0 e j) = x (ix3 0 e ⟨j.val, by omega⟩) := by
  rw [View.readAt_eq_ld, h.read_unread]
  exact congrArg x (show (Rect.unit (s := S1x1024x768) ![0, 0, 0] S1x1024x512.size inb_S1x1024x768_S1x1024x512_0_0_0).emb (ix3 0 e j) = ix3 0 e ⟨j.val, by omega⟩ by blk_ext)

theorem rdkv (a : Memref sig .tc .vmem S1x1024x768 .bf16) (h : a.IsWhole) (x : Vec Ideal S1x1024x768 .bf16) (e : Fin 1024) (j : Fin 256) :
    View.readAt (Elt Ideal) a.view (Rect.unit (s := S1x1024x768) ![0, 0, 512] S1x1024x256.size inb_S1x1024x768_S1x1024x256_0_0_512).toLoadRect (h.unread x) (ix3 0 e j) = x (ix3 0 e ⟨512 + j.val, by omega⟩) := by
  rw [View.readAt_eq_ld, h.read_unread]
  exact congrArg x (show (Rect.unit (s := S1x1024x768) ![0, 0, 512] S1x1024x256.size inb_S1x1024x768_S1x1024x256_0_0_512).emb (ix3 0 e j) = ix3 0 e ⟨512 + j.val, by omega⟩ by blk_ext)

theorem rdg (a : Memref sig .tc .vmem S1x1x128 .f32) (h : a.IsWhole) (x : Vec Ideal S1x1x128 .f32) (l : Fin 128) :
    View.readAt (Elt Ideal) a.view (Rect.unit (s := S1x1x128) ![0, 0, 0] S1x1x128.size inb_S1x1x128_S1x1x128_0_0_0).toLoadRect (h.unread x) (ix3 0 0 l) = x (ix3 0 0 l) := by
  rw [View.readAt_eq_ld, h.read_unread]
  exact congrArg x (show (Rect.unit (s := S1x1x128) ![0, 0, 0] S1x1x128.size inb_S1x1x128_S1x1x128_0_0_0).emb (ix3 0 0 l) = ix3 0 0 l by blk_ext)

theorem rds0 (a : Memref sig .tc .vmem S1x8x128 .f32) (h : a.IsWhole) (x : Vec Ideal S1x8x128 .f32) :
    View.readAt (Elt Ideal) a.view (Rect.unit (s := S1x8x128) ![0, 0, 0] S1x1x1.size inb_S1x8x128_S1x1x1_0_0_0).toLoadRect (h.unread x) (ix3 0 0 0) = x (ix3 0 0 0) := by
  rw [View.readAt_eq_ld, h.read_unread]
  exact congrArg x (show (Rect.unit (s := S1x8x128) ![0, 0, 0] S1x1x1.size inb_S1x8x128_S1x1x1_0_0_0).emb (ix3 0 0 0) = ix3 0 0 0 by blk_ext)

theorem rds1 (a : Memref sig .tc .vmem S1x8x128 .f32) (h : a.IsWhole) (x : Vec Ideal S1x8x128 .f32) :
    View.readAt (Elt Ideal) a.view (Rect.unit (s := S1x8x128) ![0, 1, 0] S1x1x1.size inb_S1x8x128_S1x1x1_0_1_0).toLoadRect (h.unread x) (ix3 0 0 0) = x (ix3 0 1 0) := by
  rw [View.readAt_eq_ld, h.read_unread]
  exact congrArg x (show (Rect.unit (s := S1x8x128) ![0, 1, 0] S1x1x1.size inb_S1x8x128_S1x1x1_0_1_0).emb (ix3 0 0 0) = ix3 0 1 0 by blk_ext)

theorem rds2 (a : Memref sig .tc .vmem S1x8x128 .f32) (h : a.IsWhole) (x : Vec Ideal S1x8x128 .f32) :
    View.readAt (Elt Ideal) a.view (Rect.unit (s := S1x8x128) ![0, 2, 0] S1x1x1.size inb_S1x8x128_S1x1x1_0_2_0).toLoadRect (h.unread x) (ix3 0 0 0) = x (ix3 0 2 0) := by
  rw [View.readAt_eq_ld, h.read_unread]
  exact congrArg x (show (Rect.unit (s := S1x8x128) ![0, 2, 0] S1x1x1.size inb_S1x8x128_S1x1x1_0_2_0).emb (ix3 0 0 0) = ix3 0 2 0 by blk_ext)

theorem rds3 (a : Memref sig .tc .vmem S1x8x128 .f32) (h : a.IsWhole) (x : Vec Ideal S1x8x128 .f32) :
    View.readAt (Elt Ideal) a.view (Rect.unit (s := S1x8x128) ![0, 3, 0] S1x1x1.size inb_S1x8x128_S1x1x1_0_3_0).toLoadRect (h.unread x) (ix3 0 0 0) = x (ix3 0 3 0) := by
  rw [View.readAt_eq_ld, h.read_unread]
  exact congrArg x (show (Rect.unit (s := S1x8x128) ![0, 3, 0] S1x1x1.size inb_S1x8x128_S1x1x1_0_3_0).emb (ix3 0 0 0) = ix3 0 3 0 by blk_ext)

theorem rds4 (a : Memref sig .tc .vmem S1x8x128 .f32) (h : a.IsWhole) (x : Vec Ideal S1x8x128 .f32) :
    View.readAt (Elt Ideal) a.view (Rect.unit (s := S1x8x128) ![0, 4, 0] S1x1x1.size inb_S1x8x128_S1x1x1_0_4_0).toLoadRect (h.unread x) (ix3 0 0 0) = x (ix3 0 4 0) := by
  rw [View.readAt_eq_ld, h.read_unread]
  exact congrArg x (show (Rect.unit (s := S1x8x128) ![0, 4, 0] S1x1x1.size inb_S1x8x128_S1x1x1_0_4_0).emb (ix3 0 0 0) = ix3 0 4 0 by blk_ext)

theorem rds5 (a : Memref sig .tc .vmem S1x8x128 .f32) (h : a.IsWhole) (x : Vec Ideal S1x8x128 .f32) :
    View.readAt (Elt Ideal) a.view (Rect.unit (s := S1x8x128) ![0, 5, 0] S1x1x1.size inb_S1x8x128_S1x1x1_0_5_0).toLoadRect (h.unread x) (ix3 0 0 0) = x (ix3 0 5 0) := by
  rw [View.readAt_eq_ld, h.read_unread]
  exact congrArg x (show (Rect.unit (s := S1x8x128) ![0, 5, 0] S1x1x1.size inb_S1x8x128_S1x1x1_0_5_0).emb (ix3 0 0 0) = ix3 0 5 0 by blk_ext)

theorem rds6 (a : Memref sig .tc .vmem S1x8x128 .f32) (h : a.IsWhole) (x : Vec Ideal S1x8x128 .f32) :
    View.readAt (Elt Ideal) a.view (Rect.unit (s := S1x8x128) ![0, 6, 0] S1x1x1.size inb_S1x8x128_S1x1x1_0_6_0).toLoadRect (h.unread x) (ix3 0 0 0) = x (ix3 0 6 0) := by
  rw [View.readAt_eq_ld, h.read_unread]
  exact congrArg x (show (Rect.unit (s := S1x8x128) ![0, 6, 0] S1x1x1.size inb_S1x8x128_S1x1x1_0_6_0).emb (ix3 0 0 0) = ix3 0 6 0 by blk_ext)

theorem rds7 (a : Memref sig .tc .vmem S1x8x128 .f32) (h : a.IsWhole) (x : Vec Ideal S1x8x128 .f32) :
    View.readAt (Elt Ideal) a.view (Rect.unit (s := S1x8x128) ![0, 7, 0] S1x1x1.size inb_S1x8x128_S1x1x1_0_7_0).toLoadRect (h.unread x) (ix3 0 0 0) = x (ix3 0 7 0) := by
  rw [View.readAt_eq_ld, h.read_unread]
  exact congrArg x (show (Rect.unit (s := S1x8x128) ![0, 7, 0] S1x1x1.size inb_S1x8x128_S1x1x1_0_7_0).emb (ix3 0 0 0) = ix3 0 7 0 by blk_ext)

end Cert.KernelIdeal.Attn
-- ==== Proof.AttnOut.lean ====
module

public import proofs.«01_k».proof.Proof.AttnValRun
public import proofs.«01_k».proof.Proof.AttnPlanes
public import proofs.«01_k».proof.Proof.AttnReads
public import Idealize.ShloMosaic.Lib.Pipeline.ValueKit
@[expose] public section
set_option maxRecDepth 16384

/-! What the attention's body leaves in the context rows' output block, element by element. -/

noncomputable section
namespace Cert.KernelIdeal.Attn
open Idealize.ShloMosaic Idealize.ShloMosaic.TcCoe Idealize.SL.Sem
open Cert.KernelIdeal Cert.KernelIdeal.Gen
open _root_.Attn (lane kn vn IsReal)

variable (c : Dev nD) (i : grid0.Coords) (arg1 : Memref sig .tc .vmem S256x1024 .bf16) (harg1 : arg1.IsWhole) (arg2 : Memref sig .tc .vmem S2048x1024 .bf16) (harg2 : arg2.IsWhole) (arg3 : Memref sig .tc .vmem S1x1024x768 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x8x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S128x128 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S4x2304x128 .bf16) (harg12 : arg12.IsWhole) (arg13 : Memref sig .tc .vmem S4x2304x128 .bf16) (harg13 : arg13.IsWhole) (arg14 : Memref sig .tc .vmem S4x256x128 .bf16) (harg14 : arg14.IsWhole) (arg15 : Memref sig .tc .vmem S4x256x128 .bf16) (harg15 : arg15.IsWhole)
  (y0 : Vec Ideal S256x1024 .bf16) (y1 : Vec Ideal S2048x1024 .bf16) (y2 : Vec Ideal S1x1024x768 .bf16) (y3 : Vec Ideal S1x1x128 .f32) (y4 : Vec Ideal S1x1x128 .f32) (y5 : Vec Ideal S1x8x128 .f32) (y6 : Vec Ideal S2048x128 .f32) (y7 : Vec Ideal S2048x128 .f32) (y8 : Vec Ideal S128x128 .bf16)

variable {N : Fin 2 → Fin 64 → EReal}
  (h0 : ∀ s e, IsReal (y0 (ix2 s e))) (h2 : ∀ e j, IsReal (y2 (ix3 0 e j)))
  (hN : ∀ i d, IsReal (N i d)) (h5 : ∀ h, IsReal (y5 (ix3 0 h 0)))
  (h3 : ∀ h d, y3 (ix3 0 0 (lane h d)) = N 0 d * Ideal.ofBits .f32 0x3E000000#32)
  (h4 : ∀ h d, y4 (ix3 0 0 (lane h d)) = N 1 d)
  (h8 : ∀ k l : Fin 128, y8 (ix2 k l) = if k.val / 64 = l.val / 64 then 1 else 0)

theorem nrm_congr {B B' : Fin 128 → Fin 128 → EReal} {x x' g g' : Fin 128 → EReal} (hB : ∀ k l, B k l = B' k l)
    (hx : ∀ k, x k = x' k) (hg : ∀ k, g k = g' k) (l : Fin 128) : _root_.Attn.nrm B x g l = _root_.Attn.nrm B' x' g' l := by
  obtain rfl : B = B' := funext fun k => funext fun l => hB k l
  obtain rfl : x = x' := funext hx
  obtain rfl : g = g' := funext hg
  rfl

theorem proj_congr {a a' w w' : Fin 1024 → EReal} (ha : ∀ e, a e = a' e) (hw : ∀ e, w e = w' e) :
    _root_.Attn.proj a w = _root_.Attn.proj a' w' := by
  obtain rfl : a = a' := funext ha
  obtain rfl : w = w' := funext hw
  rfl

/-- A tile's value, its queries, planes and sinks given element by element. -/
theorem asmV {X : Fin 256 → Fin 1024 → EReal} {W : Fin 768 → Fin 1024 → EReal} {N : Fin 2 → Fin 64 → EReal}
    {bb : Fin 8 → EReal} (hX : ∀ s e, IsReal (X s e)) (hW : ∀ j e, IsReal (W j e)) (hN : ∀ i d, IsReal (N i d))
    (hb : ∀ h, IsReal (bb h)) (j : Fin 4) (i : Fin 2) (hi : j.val / 2 = i.val) (r : Fin 256) (l : Fin 128)
    {B : Fin 128 → Fin 128 → EReal} {g : Fin 128 → EReal}
    {q : Vec Ideal S256x128 .bf16} {K K' V V' : Vec Ideal S1x256x128 .bf16} {b b' : Vec Ideal S1x1x1 .f32}
    (hB : ∀ k l, B k l = if k.val / 64 = l.val / 64 then 1 else 0)
    (hg : ∀ h d, g (lane h d) = N 0 d * Ideal.ofBits .f32 0x3E000000#32)
    (hq : ∀ k, q (ix2 r k) = _root_.Attn.nrm B (fun k => _root_.Attn.proj (X r) (W ⟨j.val * 128 + k.val, by omega⟩)) g k)
    (hK : ∀ s h' d, K (ix3 0 s (lane h' d)) = if h' = 0 then kn X W N i s d else 0)
    (hK' : ∀ s h' d, K' (ix3 0 s (lane h' d)) = if h' = 1 then kn X W N i s d else 0)
    (hV : ∀ s h' d, V (ix3 0 s (lane h' d)) = if h' = 0 then vn X W i s d else 0)
    (hV' : ∀ s h' d, V' (ix3 0 s (lane h' d)) = if h' = 1 then vn X W i s d else 0)
    (hu : b (ix3 0 0 0) = bb ⟨2 * j.val, by omega⟩) (hu' : b' (ix3 0 0 0) = bb ⟨2 * j.val + 1, by omega⟩) :
    _root_.Attn.part (fun l => q (ix2 r l)) (fun s l => K (ix3 0 s l)) (fun s => V (ix3 0 s l)) (b (ix3 0 0 0))
      + _root_.Attn.part (fun l => q (ix2 r l)) (fun s l => K' (ix3 0 s l)) (fun s => V' (ix3 0 s l)) (b' (ix3 0 0 0)) =
      _root_.Attn.attn X W N bb r ⟨j.val * 128 + l.val, by omega⟩ := by
  have e : (fun l => q (ix2 r l)) =
      _root_.Attn.nrm B (fun k => _root_.Attn.proj (X r) (W ⟨j.val * 128 + k.val, by omega⟩)) g := funext hq
  rw [e]
  exact _root_.Attn.assemble (K := fun s l => K (ix3 0 s l)) (K' := fun s l => K' (ix3 0 s l)) (V := fun s l => V (ix3 0 s l))
    (V' := fun s l => V' (ix3 0 s l)) hX hW hN hb hB j r (fun _ => rfl) hg i hi hK hK' hV hV' hu hu' l

include h0 h2 hN h5 h3 h4 h8 in
theorem tile0_at (r : Fin 256) (l : Fin 128) (z : Vec Ideal S256x128 .bf16) (hz : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8).1[3]? =
    some ⟨Rect.unit (s := S256x512) ![0, 0] S256x128.size inb_S256x512_S256x128_0_0, z⟩) :
    z (ix2 r l) = _root_.Attn.attn (fun s e => y0 (ix2 s e)) (fun j e => y2 (ix3 0 e j)) N (fun h => y5 (ix3 0 h 0)) r
      ⟨0 * 128 + l.val, by omega⟩ := by
  unfold bodyRun at hz
  dsimp only at hz
  unfold bodyRun.sl.H9_4 at hz
  simp only [List.getElem?_cons_zero, List.getElem?_cons_succ, Option.some.injEq] at hz
  obtain rfl := eq_of_heq (Sigma.mk.inj hz).2
  unfold bodyRun.sl.r_21 bodyRun.sl.r_22 bodyRun.sl.r_23 bodyRun.sl.r_24 bodyRun.sl.r_25 bodyRun.sl.r_26 bodyRun.sl.r_27
  rw [tile0]
  refine asmV (X := fun s e => y0 (ix2 s e)) (W := fun j e => y2 (ix3 0 e j)) (N := N)
    (bb := fun h => y5 (ix3 0 h 0)) h0 (fun j e => h2 e j) hN h5 0 0 rfl r l (B := fun k l => y8 (ix2 k l))
    (g := fun k => y3 (ix3 0 0 k)) h8 h3 ?hq ?hK ?hL ?hV ?hU ?hu ?hw
  case hq =>
    intro k
    unfold bodyRun.sl.r_10 bodyRun.sl.r
    refine (q0_at _ _ _ _ _ _).trans ?_
    simp only [q_at]
    have e1 : ∀ k l : Fin 128, View.readAt (Elt Ideal) arg9.view (Rect.unit (s := S128x128) ![0, 0] S128x128.size inb_S128x128_S128x128_0_0).toLoadRect (harg9.unread y8) (ix2 k l) = y8 (ix2 k l) := rdb _ _ _
    have e2 : ∀ r e, View.readAt (Elt Ideal) arg1.view (Rect.unit (s := S256x1024) ![0, 0] S256x1024.size inb_S256x1024_S256x1024_0_0).toLoadRect (harg1.unread y0) (ix2 r e) = y0 (ix2 r e) := rdh _ _ _
    have e3 := fun l => rdg arg4 harg4 y3 l
    refine nrm_congr (fun k l => e1 k l) (fun k => ?_) (fun k => e3 k) k
    refine (proj_congr (fun e => e2 r e) (fun e => rdq arg3 harg3 y2 e _)).trans ?_
    exact congrArg (fun z => _root_.Attn.proj _ (fun e => y2 (ix3 0 e z))) (Fin.ext (by simp))
  case hK =>
    intro s h' d
    unfold bodyRun.sl.v214 bodyRun.sl.HS2_4
    refine (cov0 _ _ _ _ _ s _).trans ?_
    unfold bodyRun.sl.r_1
    exact key0 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hL =>
    intro s h' d
    unfold bodyRun.sl.v217 bodyRun.sl.HS2_4
    refine (cov1 _ _ _ _ _ s _).trans ?_
    unfold bodyRun.sl.r_2
    exact key1 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hV =>
    intro s h' d
    unfold bodyRun.sl.v259 bodyRun.sl.HS3_4
    refine (cov0 _ _ _ _ _ s _).trans ?_
    unfold bodyRun.sl.r_5 bodyRun.sl.cst_16
    exact val0 (X := fun s e => y0 (ix2 s e)) (W := fun j e => y2 (ix3 0 e j)) (rdh _ _ _) (rdkv _ _ _) s h' d
  case hU =>
    intro s h' d
    unfold bodyRun.sl.v263 bodyRun.sl.HS3_4
    refine (cov1 _ _ _ _ _ s _).trans ?_
    unfold bodyRun.sl.r_6 bodyRun.sl.cst_16
    exact val1 (X := fun s e => y0 (ix2 s e)) (W := fun j e => y2 (ix3 0 e j)) (rdh _ _ _) (rdkv _ _ _) s h' d
  case hu => exact rds0 _ _ _
  case hw => exact rds1 _ _ _

include h0 h2 hN h5 h3 h4 h8 in
theorem tile1_at (r : Fin 256) (l : Fin 128) (z : Vec Ideal S256x128 .bf16) (hz : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8).1[2]? =
    some ⟨Rect.unit (s := S256x512) ![0, 128] S256x128.size inb_S256x512_S256x128_0_128, z⟩) :
    z (ix2 r l) = _root_.Attn.attn (fun s e => y0 (ix2 s e)) (fun j e => y2 (ix3 0 e j)) N (fun h => y5 (ix3 0 h 0)) r
      ⟨1 * 128 + l.val, by omega⟩ := by
  unfold bodyRun at hz
  dsimp only at hz
  unfold bodyRun.sl.H9_4 at hz
  simp only [List.getElem?_cons_zero, List.getElem?_cons_succ, Option.some.injEq] at hz
  obtain rfl := eq_of_heq (Sigma.mk.inj hz).2
  unfold bodyRun.sl.r_30 bodyRun.sl.r_31 bodyRun.sl.r_32 bodyRun.sl.r_33 bodyRun.sl.r_28 bodyRun.sl.r_29
  rw [tile1_eq, tile0]
  refine asmV (X := fun s e => y0 (ix2 s e)) (W := fun j e => y2 (ix3 0 e j)) (N := N)
    (bb := fun h => y5 (ix3 0 h 0)) h0 (fun j e => h2 e j) hN h5 1 0 rfl r l (B := fun k l => y8 (ix2 k l))
    (g := fun k => y3 (ix3 0 0 k)) h8 h3 ?hq ?hK ?hL ?hV ?hU ?hu ?hw
  case hq =>
    intro k
    unfold bodyRun.sl.r_15 bodyRun.sl.r_11 bodyRun.sl.r_12 bodyRun.sl.r_13 bodyRun.sl.r_14 bodyRun.sl.r
    refine (q1_at _ _ _ _ _ _).trans ?_
    simp only [q_at]
    have e1 : ∀ k l : Fin 128, View.readAt (Elt Ideal) arg9.view (Rect.unit (s := S128x128) ![0, 0] S128x128.size inb_S128x128_S128x128_0_0).toLoadRect (harg9.unread y8) (ix2 k l) = y8 (ix2 k l) := rdb _ _ _
    have e2 : ∀ r e, View.readAt (Elt Ideal) arg1.view (Rect.unit (s := S256x1024) ![0, 0] S256x1024.size inb_S256x1024_S256x1024_0_0).toLoadRect (harg1.unread y0) (ix2 r e) = y0 (ix2 r e) := rdh _ _ _
    have e3 := fun l => rdg arg4 harg4 y3 l
    refine nrm_congr (fun k l => e1 k l) (fun k => ?_) (fun k => e3 k) k
    refine (proj_congr (fun e => e2 r e) (fun e => rdq arg3 harg3 y2 e _)).trans ?_
    exact congrArg (fun z => _root_.Attn.proj _ (fun e => y2 (ix3 0 e z))) (Fin.ext (by simp))
  case hK =>
    intro s h' d
    unfold bodyRun.sl.v214 bodyRun.sl.HS2_4
    refine (cov0 _ _ _ _ _ s _).trans ?_
    unfold bodyRun.sl.r_1
    exact key0 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hL =>
    intro s h' d
    unfold bodyRun.sl.v217 bodyRun.sl.HS2_4
    refine (cov1 _ _ _ _ _ s _).trans ?_
    unfold bodyRun.sl.r_2
    exact key1 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hV =>
    intro s h' d
    unfold bodyRun.sl.v259 bodyRun.sl.HS3_4
    refine (cov0 _ _ _ _ _ s _).trans ?_
    unfold bodyRun.sl.r_5 bodyRun.sl.cst_16
    exact val0 (X := fun s e => y0 (ix2 s e)) (W := fun j e => y2 (ix3 0 e j)) (rdh _ _ _) (rdkv _ _ _) s h' d
  case hU =>
    intro s h' d
    unfold bodyRun.sl.v263 bodyRun.sl.HS3_4
    refine (cov1 _ _ _ _ _ s _).trans ?_
    unfold bodyRun.sl.r_6 bodyRun.sl.cst_16
    exact val1 (X := fun s e => y0 (ix2 s e)) (W := fun j e => y2 (ix3 0 e j)) (rdh _ _ _) (rdkv _ _ _) s h' d
  case hu => exact rds2 _ _ _
  case hw => exact rds3 _ _ _

include h0 h2 hN h5 h3 h4 h8 in
theorem tile2_at (r : Fin 256) (l : Fin 128) (z : Vec Ideal S256x128 .bf16) (hz : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8).1[1]? =
    some ⟨Rect.unit (s := S256x512) ![0, 256] S256x128.size inb_S256x512_S256x128_0_256, z⟩) :
    z (ix2 r l) = _root_.Attn.attn (fun s e => y0 (ix2 s e)) (fun j e => y2 (ix3 0 e j)) N (fun h => y5 (ix3 0 h 0)) r
      ⟨2 * 128 + l.val, by omega⟩ := by
  unfold bodyRun at hz
  dsimp only at hz
  unfold bodyRun.sl.H9_4 at hz
  simp only [List.getElem?_cons_zero, List.getElem?_cons_succ, Option.some.injEq] at hz
  obtain rfl := eq_of_heq (Sigma.mk.inj hz).2
  unfold bodyRun.sl.r_40 bodyRun.sl.r_34 bodyRun.sl.r_35 bodyRun.sl.r_36 bodyRun.sl.r_37 bodyRun.sl.r_38 bodyRun.sl.r_39
  rw [tile2_eq, tile0]
  refine asmV (X := fun s e => y0 (ix2 s e)) (W := fun j e => y2 (ix3 0 e j)) (N := N)
    (bb := fun h => y5 (ix3 0 h 0)) h0 (fun j e => h2 e j) hN h5 2 1 rfl r l (B := fun k l => y8 (ix2 k l))
    (g := fun k => y3 (ix3 0 0 k)) h8 h3 ?hq ?hK ?hL ?hV ?hU ?hu ?hw
  case hq =>
    intro k
    unfold bodyRun.sl.r_16 bodyRun.sl.r_9 bodyRun.sl.r
    refine (q2_at _ _ _ _ _ _).trans ?_
    simp only [q_at]
    have e1 : ∀ k l : Fin 128, View.readAt (Elt Ideal) arg9.view (Rect.unit (s := S128x128) ![0, 0] S128x128.size inb_S128x128_S128x128_0_0).toLoadRect (harg9.unread y8) (ix2 k l) = y8 (ix2 k l) := rdb _ _ _
    have e2 : ∀ r e, View.readAt (Elt Ideal) arg1.view (Rect.unit (s := S256x1024) ![0, 0] S256x1024.size inb_S256x1024_S256x1024_0_0).toLoadRect (harg1.unread y0) (ix2 r e) = y0 (ix2 r e) := rdh _ _ _
    have e3 := fun l => rdg arg4 harg4 y3 l
    refine nrm_congr (fun k l => e1 k l) (fun k => ?_) (fun k => e3 k) k
    refine (proj_congr (fun e => e2 r e) (fun e => rdq arg3 harg3 y2 e _)).trans ?_
    exact congrArg (fun z => _root_.Attn.proj _ (fun e => y2 (ix3 0 e z))) (Fin.ext (by simp))
  case hK =>
    intro s h' d
    unfold bodyRun.sl.v348 bodyRun.sl.HS2_4
    refine (cov2 _ _ _ _ _ s _).trans ?_
    unfold bodyRun.sl.r_3
    exact key2 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hL =>
    intro s h' d
    unfold bodyRun.sl.v351 bodyRun.sl.HS2_4
    refine (cov3 _ _ _ _ _ s _).trans ?_
    unfold bodyRun.sl.r_8 bodyRun.sl.r_4
    exact key3 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hV =>
    intro s h' d
    unfold bodyRun.sl.v393 bodyRun.sl.HS3_4
    refine (cov2 _ _ _ _ _ s _).trans ?_
    unfold bodyRun.sl.r_6 bodyRun.sl.cst_16
    exact val2 (X := fun s e => y0 (ix2 s e)) (W := fun j e => y2 (ix3 0 e j)) (rdh _ _ _) (rdkv _ _ _) s h' d
  case hU =>
    intro s h' d
    unfold bodyRun.sl.v397 bodyRun.sl.HS3_4
    refine (cov3 _ _ _ _ _ s _).trans ?_
    unfold bodyRun.sl.r_7 bodyRun.sl.r_5 bodyRun.sl.cst_16
    exact val3 (X := fun s e => y0 (ix2 s e)) (W := fun j e => y2 (ix3 0 e j)) (rdh _ _ _) (rdkv _ _ _) s h' d
  case hu => exact rds4 _ _ _
  case hw => exact rds5 _ _ _

include h0 h2 hN h5 h3 h4 h8 in
theorem tile3_at (r : Fin 256) (l : Fin 128) (z : Vec Ideal S256x128 .bf16) (hz : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8).1[0]? =
    some ⟨Rect.unit (s := S256x512) ![0, 384] S256x128.size inb_S256x512_S256x128_0_384, z⟩) :
    z (ix2 r l) = _root_.Attn.attn (fun s e => y0 (ix2 s e)) (fun j e => y2 (ix3 0 e j)) N (fun h => y5 (ix3 0 h 0)) r
      ⟨3 * 128 + l.val, by omega⟩ := by
  unfold bodyRun at hz
  dsimp only at hz
  unfold bodyRun.sl.H9_4 at hz
  simp only [List.getElem?_cons_zero, List.getElem?_cons_succ, Option.some.injEq] at hz
  obtain rfl := eq_of_heq (Sigma.mk.inj hz).2
  unfold bodyRun.sl.r_41 bodyRun.sl.r_42 bodyRun.sl.r_43 bodyRun.sl.r_44 bodyRun.sl.r_45 bodyRun.sl.r_46 bodyRun.sl.r_47
  rw [tile3_eq, tile0]
  refine asmV (X := fun s e => y0 (ix2 s e)) (W := fun j e => y2 (ix3 0 e j)) (N := N)
    (bb := fun h => y5 (ix3 0 h 0)) h0 (fun j e => h2 e j) hN h5 3 1 rfl r l (B := fun k l => y8 (ix2 k l))
    (g := fun k => y3 (ix3 0 0 k)) h8 h3 ?hq ?hK ?hL ?hV ?hU ?hu ?hw
  case hq =>
    intro k
    unfold bodyRun.sl.r_20 bodyRun.sl.r_17 bodyRun.sl.r_18 bodyRun.sl.r_19 bodyRun.sl.r_9 bodyRun.sl.r
    refine (q3_at _ _ _ _ _ _).trans ?_
    simp only [q_at]
    have e1 : ∀ k l : Fin 128, View.readAt (Elt Ideal) arg9.view (Rect.unit (s := S128x128) ![0, 0] S128x128.size inb_S128x128_S128x128_0_0).toLoadRect (harg9.unread y8) (ix2 k l) = y8 (ix2 k l) := rdb _ _ _
    have e2 : ∀ r e, View.readAt (Elt Ideal) arg1.view (Rect.unit (s := S256x1024) ![0, 0] S256x1024.size inb_S256x1024_S256x1024_0_0).toLoadRect (harg1.unread y0) (ix2 r e) = y0 (ix2 r e) := rdh _ _ _
    have e3 := fun l => rdg arg4 harg4 y3 l
    refine nrm_congr (fun k l => e1 k l) (fun k => ?_) (fun k => e3 k) k
    refine (proj_congr (fun e => e2 r e) (fun e => rdq arg3 harg3 y2 e _)).trans ?_
    exact congrArg (fun z => _root_.Attn.proj _ (fun e => y2 (ix3 0 e z))) (Fin.ext (by simp))
  case hK =>
    intro s h' d
    unfold bodyRun.sl.v348 bodyRun.sl.HS2_4
    refine (cov2 _ _ _ _ _ s _).trans ?_
    unfold bodyRun.sl.r_3
    exact key2 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hL =>
    intro s h' d
    unfold bodyRun.sl.v351 bodyRun.sl.HS2_4
    refine (cov3 _ _ _ _ _ s _).trans ?_
    unfold bodyRun.sl.r_8 bodyRun.sl.r_4
    exact key3 (X := fun s e => y0 (ix2 s e)) (W := fun j e => y2 (ix3 0 e j)) h0 (fun j e => h2 e j) (fun k l => (rdb _ _ _ k l).trans (h8 k l)) (rdh _ _ _) (rdkv _ _ _) (fun h d => (rdg _ _ _ _).trans (h4 h d)) s h' d
  case hV =>
    intro s h' d
    unfold bodyRun.sl.v393 bodyRun.sl.HS3_4
    refine (cov2 _ _ _ _ _ s _).trans ?_
    unfold bodyRun.sl.r_6 bodyRun.sl.cst_16
    exact val2 (X := fun s e => y0 (ix2 s e)) (W := fun j e => y2 (ix3 0 e j)) (rdh _ _ _) (rdkv _ _ _) s h' d
  case hU =>
    intro s h' d
    unfold bodyRun.sl.v397 bodyRun.sl.HS3_4
    refine (cov3 _ _ _ _ _ s _).trans ?_
    unfold bodyRun.sl.r_7 bodyRun.sl.r_5 bodyRun.sl.cst_16
    exact val3 (X := fun s e => y0 (ix2 s e)) (W := fun j e => y2 (ix3 0 e j)) (rdh _ _ _) (rdkv _ _ _) s h' d
  case hu => exact rds6 _ _ _
  case hw => exact rds7 _ _ _

/-- A block written in four tiles, read back. -/
theorem canon_four (L : List (View.Piece (Elt Ideal) S256x512 .bf16))
    (hL : ∃ P3 P2 P1 P0 : Vec Ideal S256x128 .bf16, L = [⟨Rect.unit (s := S256x512) ![0, 384] S256x128.size inb_S256x512_S256x128_0_384, P3⟩, ⟨Rect.unit (s := S256x512) ![0, 256] S256x128.size inb_S256x512_S256x128_0_256, P2⟩, ⟨Rect.unit (s := S256x512) ![0, 128] S256x128.size inb_S256x512_S256x128_0_128, P1⟩, ⟨Rect.unit (s := S256x512) ![0, 0] S256x128.size inb_S256x512_S256x128_0_0, P0⟩])
    (G : Fin 256 → Fin 512 → EReal)
    (T0 : ∀ (r : Fin 256) (l : Fin 128) (z : Vec Ideal S256x128 .bf16), L[3]? = some ⟨Rect.unit (s := S256x512) ![0, 0] S256x128.size inb_S256x512_S256x128_0_0, z⟩ → z (ix2 r l) = G r ⟨0 * 128 + l.val, by omega⟩)
    (T1 : ∀ (r : Fin 256) (l : Fin 128) (z : Vec Ideal S256x128 .bf16), L[2]? = some ⟨Rect.unit (s := S256x512) ![0, 128] S256x128.size inb_S256x512_S256x128_0_128, z⟩ → z (ix2 r l) = G r ⟨1 * 128 + l.val, by omega⟩)
    (T2 : ∀ (r : Fin 256) (l : Fin 128) (z : Vec Ideal S256x128 .bf16), L[1]? = some ⟨Rect.unit (s := S256x512) ![0, 256] S256x128.size inb_S256x512_S256x128_0_256, z⟩ → z (ix2 r l) = G r ⟨2 * 128 + l.val, by omega⟩)
    (T3 : ∀ (r : Fin 256) (l : Fin 128) (z : Vec Ideal S256x128 .bf16), L[0]? = some ⟨Rect.unit (s := S256x512) ![0, 384] S256x128.size inb_S256x512_S256x128_0_384, z⟩ → z (ix2 r l) = G r ⟨3 * 128 + l.val, by omega⟩)
    (r : Fin 256) (l : Fin 512) : View.canon (Val := Elt Ideal) L (ix2 r l) = G r l := by
  obtain ⟨P3, P2, P1, P0, rfl⟩ := hL
  refine View.canon_apply_of_pieces (Val := Elt Ideal) (e := .bf16) (fun y : S256x512.Idx => G (y 0) (y 1)) _ ?_ (ix2 r l) ?_
  · simp only [List.mem_cons, forall_eq_or_imp, List.not_mem_nil, false_imp_iff, implies_true, and_true]
    refine ⟨fun x => ?_, fun x => ?_, fun x => ?_, fun x => ?_⟩
    · idx_vars x
      have e : (Rect.unit (s := S256x512) ![0, 384] S256x128.size inb_S256x512_S256x128_0_384).emb (ix2 x0 x1) = ix2 x0 ⟨3 * 128 + x1.val, by omega⟩ := by blk_ext
      exact (T3 x0 x1 P3 rfl).trans (congrArg (fun y : S256x512.Idx => G (y 0) (y 1)) e.symm)
    · idx_vars x
      have e : (Rect.unit (s := S256x512) ![0, 256] S256x128.size inb_S256x512_S256x128_0_256).emb (ix2 x0 x1) = ix2 x0 ⟨2 * 128 + x1.val, by omega⟩ := by blk_ext
      exact (T2 x0 x1 P2 rfl).trans (congrArg (fun y : S256x512.Idx => G (y 0) (y 1)) e.symm)
    · idx_vars x
      have e : (Rect.unit (s := S256x512) ![0, 128] S256x128.size inb_S256x512_S256x128_0_128).emb (ix2 x0 x1) = ix2 x0 ⟨1 * 128 + x1.val, by omega⟩ := by blk_ext
      exact (T1 x0 x1 P1 rfl).trans (congrArg (fun y : S256x512.Idx => G (y 0) (y 1)) e.symm)
    · idx_vars x
      have e : (Rect.unit (s := S256x512) ![0, 0] S256x128.size inb_S256x512_S256x128_0_0).emb (ix2 x0 x1) = ix2 x0 ⟨0 * 128 + x1.val, by omega⟩ := by blk_ext
      exact (T0 x0 x1 P0 rfl).trans (congrArg (fun y : S256x512.Idx => G (y 0) (y 1)) e.symm)
  · exact View.cover_of_tiledL (s := S256x512) _ ![256, 128] (by rfl) (ix2 r l)

include h0 h2 hN h5 h3 h4 h8 in
/-- The block of context rows, element by element. -/
theorem out9 (r : Fin 256) (l : Fin 512) : View.canon (Val := Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8).1 (ix2 r l) =
    _root_.Attn.attn (fun s e => y0 (ix2 s e)) (fun j e => y2 (ix3 0 e j)) N (fun h => y5 (ix3 0 h 0)) r l := by
  refine canon_four _ ?_ (_root_.Attn.attn (fun s e => y0 (ix2 s e)) (fun j e => y2 (ix3 0 e j)) N (fun h => y5 (ix3 0 h 0)))
    (tile0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8 h0 h2 hN h5 h3 h4 h8) (tile1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8 h0 h2 hN h5 h3 h4 h8)
    (tile2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8 h0 h2 hN h5 h3 h4 h8) (tile3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 y0 y1 y2 y3 y4 y5 y6 y7 y8 h0 h2 hN h5 h3 h4 h8) r l
  unfold bodyRun
  dsimp only
  unfold bodyRun.sl.H9_4
  exact ⟨_, _, _, _, rfl⟩

end Cert.KernelIdeal.Attn
-- ==== Proof.AttnValFrame.lean ====
module

public import proofs.«01_k».proof.Proof.AttnValRun
public import Idealize.ShloMosaic.Lib.Pipeline.ValueKit

@[expose] public section

set_option maxRecDepth 16384

/-! The attention call ends, with the context rows' result named. -/

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into the context rows' output block at a point. -/
def pieces9 (c : Dev nD) (t : Fin cfg0.N) : List (View.Piece (Elt F) S256x512 .bf16) :=
  (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t)).1

theorem cover9 (p0 p1 p2 p3 : Vec F S256x128 .bf16) (y : S256x512.Idx) :
    ∃ pc ∈ ([⟨Rect.unit ![0, 384] S256x128.size inb_S256x512_S256x128_0_384, p3⟩, ⟨Rect.unit ![0, 256] S256x128.size inb_S256x512_S256x128_0_256, p2⟩,
      ⟨Rect.unit ![0, 128] S256x128.size inb_S256x512_S256x128_0_128, p1⟩, ⟨Rect.unit ![0, 0] S256x128.size inb_S256x512_S256x128_0_0, p0⟩] : List (View.Piece (Elt F) S256x512 .bf16)), y ∈ pc.1.set :=
  View.cover_of_tiledL (s := S256x512) _ ![256, 128] (by rfl) y

/-- The proof data: each input stays at its block; the context rows' output is named, nothing is stated of the other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (pieces9 m c t)
    | ⟨10, _⟩ => Dat.unnamed 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem after0_9 (c : Dev nD) (t : Fin cfg0.N) : (dats m 0 c).after 9 t = View.canon (pieces9 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ X, owns (c : Thread nD τ) (ms0_10 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, owns (c : Thread nD τ) (ms0_10 t) fullShare X))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply ((bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · icases H9 with ⟨%d9, H9⟩; iexists _; iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, ⟨%f9, H9⟩, ⟨%f10, %g0, %g1, H10⟩, HS0, HS1, ⟨%e2, HS2⟩, ⟨%e3, HS3⟩⟩
  isplitl [HS0 HS1 HS2 HS3 Hg]
  · isplitl [HS0 HS1 HS2 HS3]
    · isplitl [HS0]; · iexact HS0
      isplitl [HS1]; · iexact HS1
      isplitl [HS2]
      · iexists _; unfold owns; iexists _; isplitr; swap; · iexact HS2
        ipureintro; rfl
      iexists _; unfold owns; iexists _; isplitr; swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact View.read_writes_eq_canon _ _ _ (cover9 _ _ _ _)
  iexists _; unfold owns; iexists _; isplitr; swap; · iexact H10
  ipureintro; rfl

/-- The output window of which nothing is stated. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- Every execution ends with the named context rows and every argument as it was. -/
theorem run9 : θ_run defs (onTc (τ := τ) (main (F := F))) ⟨m, fun _ => 0, ρ⟩ (fun r => ∀ c : Dev nD,
      r.2.mem ((c.tc : Thread nD τ).loc main_v56_0) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h c =>
      ⟨((dats m 0 c).toRForget_arrAt_iff (fgt := fgt) (w := 9) rfl _ _).1 ((h.1 c).1 9),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)

end Cert.KernelIdeal.Attn

end
-- ==== Proof.AttnRef.lean ====
module

public import proofs.«01_k».proof.Proof.Gen.ReferenceIdeal.Read
public import proofs.«01_k».proof.Proof.Gen.Pre_finite
public import proofs.«01_k».proof.Proof.Gen.On_context_rows
public import proofs.«01_k».proof.Proof.AttnMath
@[expose] public section
set_option maxRecDepth 16384

/-! What the plain attention of the context rows computes, element by element. -/

noncomputable section
namespace Cert.ReferenceIdeal.Out
open Idealize.ShloMosaic Idealize.ShloMosaic.TcCoe Idealize.SL.Sem
open Cert.ReferenceIdeal Cert.ReferenceIdeal.Gen Cert.ReferenceIdeal.Read

variable (x0 : (⟨S16x256x1024, .f32⟩ : BufTy).Contents (Elt Ideal))
  (x2 : (⟨S4x1024x8464, .f32⟩ : BufTy).Contents (Elt Ideal))
  (x3 : (⟨S4x2x64, .f32⟩ : BufTy).Contents (Elt Ideal))
  (x4 : (⟨S4x8, .f32⟩ : BufTy).Contents (Elt Ideal))

/-- A row's projection onto column `j` of the layer's weights. -/
theorem col (b : Fin 16) (r : Fin 256) (j : Fin 8464) :
    val_main_v6 x0 x2 (ix3 b r j) = Attn.proj (fun e => x0 (ix3 b r e)) (fun e => x2 (ix3 0 e j)) := by
  unfold Attn.proj
  pointwise [val_main_v6, val_main_v1, val_main_v0]

theorem qraw (b : Fin 16) (r : Fin 256) (h : Fin 8) (d : Fin 64) :
    val_main_v8 x0 x2 (ix4 b r h d) = val_main_v6 x0 x2 (ix3 b r ⟨h.val * 64 + d.val, by omega⟩) := by
  pointwise [val_main_v8, val_main_v7]

theorem kraw (b : Fin 16) (r : Fin 256) (h : Fin 2) (d : Fin 64) :
    val_main_v10 x0 x2 (ix4 b r h d) = val_main_v6 x0 x2 (ix3 b r ⟨512 + (h.val * 64 + d.val), by omega⟩) := by
  pointwise [val_main_v10, val_main_v9]

theorem vraw (b : Fin 16) (r : Fin 256) (h : Fin 2) (d : Fin 64) :
    val_main_v12 x0 x2 (ix4 b r h d) = val_main_v6 x0 x2 (ix3 b r ⟨640 + (h.val * 64 + d.val), by omega⟩) := by
  pointwise [val_main_v12, val_main_v11]

theorem qn (b : Fin 16) (r : Fin 256) (h : Fin 8) (d : Fin 64) :
    val_main_v27 x0 x2 x3 (ix4 b r h d) =
      Attn.rms (fun k => val_main_v8 x0 x2 (ix4 b r h k)) (fun k => x3 (ix3 0 0 k)) d := by
  unfold Attn.rms
  pointwise [val_main_v27, val_main_v26, val_main_v25, val_main_v24, val_main_v23, val_main_v22, val_main_v21,
    val_main_v20, val_main_v19, val_main_v18, val_main_v17, val_main_v16, val_main_v15, val_main_v14, val_main_v13,
    val_main_v3, val_main_v2, val_main_cst, val_main_cst_0, val_main_cst_1]

theorem kn (b : Fin 16) (r : Fin 256) (h : Fin 2) (d : Fin 64) :
    val_main_v42 x0 x2 x3 (ix4 b r h d) =
      Attn.rms (fun k => val_main_v10 x0 x2 (ix4 b r h k)) (fun k => x3 (ix3 0 1 k)) d := by
  unfold Attn.rms
  pointwise [val_main_v42, val_main_v41, val_main_v40, val_main_v39, val_main_v38, val_main_v37, val_main_v36,
    val_main_v35, val_main_v34, val_main_v33, val_main_v32, val_main_v31, val_main_v30, val_main_v29, val_main_v28,
    val_main_v3, val_main_v2, val_main_cst_2, val_main_cst_3, val_main_cst_4]

theorem score (b : Fin 16) (g : Fin 2) (q : Fin 4) (r s : Fin 256) :
    val_main_v184 x0 x2 x3 (ix5 b g q r s) =
      (∑ d : Fin 64, val_main_v42 x0 x2 x3 (ix4 b s g d) *
        val_main_v27 x0 x2 x3 (ix4 b r ⟨g.val * 4 + q.val, by omega⟩ d)) * Ideal.ofBits .f32 0x3E000000#32 := by
  pointwise [val_main_v184, val_main_v183, val_main_v182, val_main_v181, val_main_v180, val_main_cst_21]

theorem logit (b : Fin 16) (g : Fin 2) (q : Fin 4) (r : Fin 256) (i : Fin 257) :
    val_main_v187 x0 x2 x3 x4 (ix5 b g q r i) =
      if h : i.val < 256 then val_main_v184 x0 x2 x3 (ix5 b g q r ⟨i.val, h⟩)
      else x4 (ix2 0 ⟨g.val * 4 + q.val, by omega⟩) := by
  pointwise [val_main_v187, val_main_v186, val_main_v185, val_main_v5, val_main_v4]

theorem mx (b : Fin 16) (g : Fin 2) (q : Fin 4) (r : Fin 256) :
    val_main_v188 x0 x2 x3 x4 (ix4 b g q r) = Finset.univ.fold max (Ideal.ofBits .f32 0xFF800000#32)
      (fun i : Fin 257 => val_main_v187 x0 x2 x3 x4 (ix5 b g q r i)) := by
  unfold val_main_v188 val_main_cst_22
  generalize val_main_v187 x0 x2 x3 x4 = v
  simp only [pointwise]

theorem mx' (b : Fin 16) (g : Fin 2) (q : Fin 4) (r : Fin 256) :
    val_main_v190 x0 x2 x3 x4 (ix4 b g q r) =
      max (Ideal.ofBits .f32 0xFF800000#32) (val_main_v188 x0 x2 x3 x4 (ix4 b g q r)) := by
  rw [val_main_v190_apply, val_main_v189_apply, val_main_cst_23_apply]
  generalize val_main_v188 x0 x2 x3 x4 (ix4 b g q r) = z
  rfl

theorem ex (b : Fin 16) (g : Fin 2) (q : Fin 4) (r : Fin 256) (i : Fin 257) :
    val_main_v194 x0 x2 x3 x4 (ix5 b g q r i) =
      Ideal.exp (val_main_v187 x0 x2 x3 x4 (ix5 b g q r i) - val_main_v190 x0 x2 x3 x4 (ix4 b g q r)) := by
  pointwise [val_main_v194, val_main_v193, val_main_v192, val_main_v191]

theorem pr (b : Fin 16) (g : Fin 2) (q : Fin 4) (r : Fin 256) (i : Fin 257) :
    val_main_v198 x0 x2 x3 x4 (ix5 b g q r i) =
      Ideal.div (val_main_v194 x0 x2 x3 x4 (ix5 b g q r i))
        (∑ j : Fin 257, val_main_v194 x0 x2 x3 x4 (ix5 b g q r j)) := by
  pointwise [val_main_v198, val_main_v197, val_main_v196, val_main_v195, val_main_cst_24]

theorem res (R : Fin 4096) (l : Fin 512) :
    val_main_v203 x0 x2 x3 x4 (ix2 R l) =
      ∑ s : Fin 256, val_main_v12 x0 x2 (ix4 ⟨R.val / 256, by omega⟩ s ⟨l.val / 256, by omega⟩ ⟨l.val % 64, by omega⟩) *
        val_main_v198 x0 x2 x3 x4 (ix5 ⟨R.val / 256, by omega⟩ ⟨l.val / 256, by omega⟩ ⟨l.val / 64 % 4, by omega⟩
          ⟨R.val % 256, by omega⟩ ⟨s.val, by omega⟩) := by
  pointwise [val_main_v203, val_main_v202, val_main_v201, val_main_v200, val_main_v199]

end Cert.ReferenceIdeal.Out
-- ==== Proof.AttnRefAll.lean ====
module

public import proofs.«01_k».proof.Proof.Gen.ReferenceIdeal.Read
public import proofs.«01_k».proof.Proof.Gen.Pre_finite
public import proofs.«01_k».proof.Proof.Gen.On_context_rows
public import proofs.«01_k».proof.Proof.AttnRef
@[expose] public section
set_option maxRecDepth 16384

/-! The plain attention, as one function of its inputs. -/

noncomputable section
namespace Cert.ReferenceIdeal.Out
open Idealize.ShloMosaic Idealize.ShloMosaic.TcCoe Idealize.SL.Sem
open Cert.ReferenceIdeal Cert.ReferenceIdeal.Gen Cert.ReferenceIdeal.Read

variable (x0 : (⟨S16x256x1024, .f32⟩ : BufTy).Contents (Elt Ideal))
  (x2 : (⟨S4x1024x8464, .f32⟩ : BufTy).Contents (Elt Ideal))
  (x3 : (⟨S4x2x64, .f32⟩ : BufTy).Contents (Elt Ideal))
  (x4 : (⟨S4x8, .f32⟩ : BufTy).Contents (Elt Ideal))

/-- The reference's element. -/
theorem ref_at (R : Fin 4096) (l : Fin 512) :
    val_main_v203 x0 x2 x3 x4 (ix2 R l) =
      Attn.attn (fun s e => x0 (ix3 ⟨R.val / 256, by omega⟩ s e)) (fun j e => x2 (ix3 0 e ⟨j.val, by omega⟩))
        (fun i k => x3 (ix3 0 i k)) (fun h => x4 (ix2 0 h)) ⟨R.val % 256, by omega⟩ l := by
  rw [res]
  have hS : ∀ (b : Fin 16) (g : Fin 2) (q : Fin 4) (r s : Fin 256), val_main_v184 x0 x2 x3 (ix5 b g q r s) =
      (∑ d : Fin 64, Attn.rms (fun k => Attn.proj (fun e => x0 (ix3 b s e)) (fun e => x2 (ix3 0 e ⟨512 + (g.val * 64 + k.val), by omega⟩)))
          (fun k => x3 (ix3 0 1 k)) d *
        Attn.rms (fun k => Attn.proj (fun e => x0 (ix3 b r e)) (fun e => x2 (ix3 0 e ⟨(g.val * 4 + q.val) * 64 + k.val, by omega⟩)))
          (fun k => x3 (ix3 0 0 k)) d) * Ideal.ofBits .f32 0x3E000000#32 := fun b g q r s => by
    rw [score]
    simp only [kn, qn, kraw, qraw, col]
  have hL : ∀ (b : Fin 16) (g : Fin 2) (q : Fin 4) (r : Fin 256) (i : Fin 257), val_main_v187 x0 x2 x3 x4 (ix5 b g q r i) =
      Attn.lg (fun s => val_main_v184 x0 x2 x3 (ix5 b g q r s)) (x4 (ix2 0 ⟨g.val * 4 + q.val, by omega⟩)) i := fun b g q r i => by
    rw [logit]; rfl
  have hM : ∀ (b : Fin 16) (g : Fin 2) (q : Fin 4) (r : Fin 256), val_main_v190 x0 x2 x3 x4 (ix4 b g q r) =
      Attn.smx (fun s => val_main_v184 x0 x2 x3 (ix5 b g q r s)) (x4 (ix2 0 ⟨g.val * 4 + q.val, by omega⟩)) := fun b g q r => by
    rw [mx', mx]
    simp only [hL]
    rfl
  unfold Attn.attn Attn.soft
  refine Finset.sum_congr rfl fun s _ => ?_
  rw [pr]
  simp only [ex]
  rw [hM]
  simp only [hL, hS]
  rw [vraw, col]

end Cert.ReferenceIdeal.Out
-- ==== Proof.AttnBd0.lean ====
module

public import proofs.«01_k».proof.KernelIdeal
@[expose] public section
set_option maxRecDepth 16384

/-! The constant matrix of the attention's per-head sums: one within a head's 64 lanes, zero across. -/

noncomputable section
namespace Cert.KernelIdeal.Attn
open Idealize.ShloMosaic
open Cert.KernelIdeal

theorem bd0 : ∀ l : Fin 128, lit0t0_0 (0 * 128 + l.val) = if 0 / 64 = l.val / 64 then 0x3F80#16 else 0x0000#16 := by decide +kernel
theorem bd1 : ∀ l : Fin 128, lit0t0_1 (1 * 128 + l.val) = if 1 / 64 = l.val / 64 then 0x3F80#16 else 0x0000#16 := by decide +kernel
theorem bd2 : ∀ l : Fin 128, lit0t0_2 (2 * 128 + l.val) = if 2 / 64 = l.val / 64 then 0x3F80#16 else 0x0000#16 := by decide +kernel
theorem bd3 : ∀ l : Fin 128, lit0t0_3 (3 * 128 + l.val) = if 3 / 64 = l.val / 64 then 0x3F80#16 else 0x0000#16 := by decide +kernel
theorem bd4 : ∀ l : Fin 128, lit0t0_4 (4 * 128 + l.val) = if 4 / 64 = l.val / 64 then 0x3F80#16 else 0x0000#16 := by decide +kernel
theorem bd5 : ∀ l : Fin 128, lit0t0_5 (5 * 128 + l.val) = if 5 / 64 = l.val / 64 then 0x3F80#16 else 0x0000#16 := by decide +kernel
theorem bd6 : ∀ l : Fin 128, lit0t0_6 (6 * 128 + l.val) = if 6 / 64 = l.val / 64 then 0x3F80#16 else 0x0000#16 := by decide +kernel
theorem bd7 : ∀ l : Fin 128, lit0t0_7 (7 * 128 + l.val) = if 7 / 64 = l.val / 64 then 0x3F80#16 else 0x0000#16 := by decide +kernel
theorem bd8 : ∀ l : Fin 128, lit0t0_8 (8 * 128 + l.val) = if 8 / 64 = l.val / 64 then 0x3F80#16 else 0x0000#16 := by decide +kernel
theorem bd9 : ∀ l : Fin 128, lit0t0_9 (9 * 128 + l.val) = if 9 / 64 = l.val / 64 then 0x3F80#16 else 0x0000#16 := by decide +kernel
theorem bd10 : ∀ l : Fin 128, lit0t0_10 (10 * 128 + l.val) = if 10 / 64 = l.val / 64 then 0x3F80#16 else 0x0000#16 := by decide +kernel
theorem bd11 : ∀ l : Fin 128, lit0t0_11 (11 * 128 + l.val) = if 11 / 64 = l.val / 64 then 0x3F80#16 else 0x0000#16 := by decide +kernel
theorem bd12 : ∀ l : Fin 128, lit0t0_12 (12 * 128 + l.val) = if 12 / 64 = l.val / 64 then 0x3F80#16 else 0x0000#16 := by decide +kernel
theorem bd13 : ∀ l : Fin 128, lit0t0_13 (13 * 128 + l.val) = if 13 / 64 = l.val / 64 then 0x3F80#16 else 0x0000#16 := by decide +kernel
theorem bd14 : ∀ l : Fin 128, lit0t0_14 (14 * 128 + l.val) = if 14 / 64 = l.val / 64 then 0x3F80#16 else 0x0000#16 := by decide +kernel
theorem bd15 : ∀ l : Fin 128, lit0t0_15 (15 * 128 + l.val) = if 15 / 64 = l.val / 64 then 0x3F80#16 else 0x0000#16 := by decide +kernel
theorem bd16 : ∀ l : Fin 128, lit0t0_16 (16 * 128 + l.val) = if 16 / 64 = l.val / 64 then 0x3F80#16 else 0x0000#16 := by decide +kernel
theorem bd17 : ∀ l : Fin 128, lit0t0_17 (17 * 128 + l.val) = if 17 / 64 = l.val / 64 then 0x3F80#16 else 0x0000#16 := by decide +kernel
theorem bd18 : ∀ l : Fin 128, lit0t0_18 (18 * 128 + l.val) = if 18 / 64 = l.val / 64 then 0x3F80#16 else 0x0000#16 := by decide +kernel
theorem bd19 : ∀ l : Fin 128, lit0t0_19 (19 * 128 + l.val) = if 19 / 64 = l.val / 64 then 0x3F80#16 else 0x0000#16 := by decide +kernel
theorem bd20 : ∀ l : Fin 128, lit0t0_20 (20 * 128 + l.val) = if 20 / 64 = l.val / 64 then 0x3F80#16 else 0x0000#16 := by decide +kernel
theorem bd21 : ∀ l : Fin 128, lit0t0_21 (21 * 128 + l.val) = if 21 / 64 = l.val / 64 then 0x3F80#16 else 0x0000#16 := by decide +kernel

end Cert.KernelIdeal.Attn
-- ==== Proof.AttnBd1.lean ====
module

public import proofs.«01_k».proof.KernelIdeal
@[expose] public section
set_option maxRecDepth 16384

/-! The constant matrix of the attention's per-head sums: one within a head's 64 lanes, zero across. -/

noncomputable section
namespace Cert.KernelIdeal.Attn
open Idealize.ShloMosaic
open Cert.KernelIdeal

theorem bd22 : ∀ l : Fin 128, lit0t0_22 (22 * 128 + l.val) = if 22 / 64 = l.val / 64 then 0x3F80#16 else 0x0000#16 := by decide +kernel
theorem bd23 : ∀ l : Fin 128, lit0t0_23 (23 * 128 + l.val) = if 23 / 64 = l.val / 64 then 0x3F80#16 else 0x0000#16 := by decide +kernel
theorem bd24 : ∀ l : Fin 128, lit0t0_24 (24 * 128 + l.val) = if 24 / 64 = l.val / 64 then 0x3F80#16 else 0x0000#16 := by decide +kernel
theorem bd25 : ∀ l : Fin 128, lit0t0_25 (25 * 128 + l.val) = if 25 / 64 = l.val / 64 then 0x3F80#16 else 0x0000#16 := by decide +kernel
theorem bd26 : ∀ l : Fin 128, lit0t0_26 (26 * 128 + l.val) = if 26 / 64 = l.val / 64 then 0x3F80#16 else 0x0000#16 := by decide +kernel
theorem bd27 : ∀ l : Fin 128, lit0t0_27 (27 * 128 + l.val) = if 27 / 64 = l.val / 64 then 0x3F80#16 else 0x0000#16 := by decide +kernel
theorem bd28 : ∀ l : Fin 128, lit0t0_28 (28 * 128 + l.val) = if 28 / 64 = l.val / 64 then 0x3F80#16 else 0x0000#16 := by decide +kernel
theorem bd29 : ∀ l : Fin 128, lit0t0_29 (29 * 128 + l.val) = if 29 / 64 = l.val / 64 then 0x3F80#16 else 0x0000#16 := by decide +kernel
theorem bd30 : ∀ l : Fin 128, lit0t0_30 (30 * 128 + l.val) = if 30 / 64 = l.val / 64 then 0x3F80#16 else 0x0000#16 := by decide +kernel
theorem bd31 : ∀ l : Fin 128, lit0t0_31 (31 * 128 + l.val) = if 31 / 64 = l.val / 64 then 0x3F80#16 else 0x0000#16 := by decide +kernel
theorem bd32 : ∀ l : Fin 128, lit0t0_32 (32 * 128 + l.val) = if 32 / 64 = l.val / 64 then 0x3F80#16 else 0x0000#16 := by decide +kernel
theorem bd33 : ∀ l : Fin 128, lit0t0_33 (33 * 128 + l.val) = if 33 / 64 = l.val / 64 then 0x3F80#16 else 0x0000#16 := by decide +kernel
theorem bd34 : ∀ l : Fin 128, lit0t0_34 (34 * 128 + l.val) = if 34 / 64 = l.val / 64 then 0x3F80#16 else 0x0000#16 := by decide +kernel
theorem bd35 : ∀ l : Fin 128, lit0t0_35 (35 * 128 + l.val) = if 35 / 64 = l.val / 64 then 0x3F80#16 else 0x0000#16 := by decide +kernel
theorem bd36 : ∀ l : Fin 128, lit0t0_36 (36 * 128 + l.val) = if 36 / 64 = l.val / 64 then 0x3F80#16 else 0x0000#16 := by decide +kernel
theorem bd37 : ∀ l : Fin 128, lit0t0_37 (37 * 128 + l.val) = if 37 / 64 = l.val / 64 then 0x3F80#16 else 0x0000#16 := by decide +kernel
theorem bd38 : ∀ l : Fin 128, lit0t0_38 (38 * 128 + l.val) = if 38 / 64 = l.val / 64 then 0x3F80#16 else 0x0000#16 := by decide +kernel
theorem bd39 : ∀ l : Fin 128, lit0t0_39 (39 * 128 + l.val) = if 39 / 64 = l.val / 64 then 0x3F80#16 else 0x0000#16 := by decide +kernel
theorem bd40 : ∀ l : Fin 128, lit0t0_40 (40 * 128 + l.val) = if 40 / 64 = l.val / 64 then 0x3F80#16 else 0x0000#16 := by decide +kernel
theorem bd41 : ∀ l : Fin 128, lit0t0_41 (41 * 128 + l.val) = if 41 / 64 = l.val / 64 then 0x3F80#16 else 0x0000#16 := by decide +kernel
theorem bd42 : ∀ l : Fin 128, lit0t0_42 (42 * 128 + l.val) = if 42 / 64 = l.val / 64 then 0x3F80#16 else 0x0000#16 := by decide +kernel
theorem bd43 : ∀ l : Fin 128, lit0t0_43 (43 * 128 + l.val) = if 43 / 64 = l.val / 64 then 0x3F80#16 else 0x0000#16 := by decide +kernel

end Cert.KernelIdeal.Attn
-- ==== Proof.AttnBd2.lean ====
module

public import proofs.«01_k».proof.KernelIdeal
@[expose] public section
set_option maxRecDepth 16384

/-! The constant matrix of the attention's per-head sums: one within a head's 64 lanes, zero across. -/

noncomputable section
namespace Cert.KernelIdeal.Attn
open Idealize.ShloMosaic
open Cert.KernelIdeal

theorem bd44 : ∀ l : Fin 128, lit0t0_44 (44 * 128 + l.val) = if 44 / 64 = l.val / 64 then 0x3F80#16 else 0x0000#16 := by decide +kernel
theorem bd45 : ∀ l : Fin 128, lit0t0_45 (45 * 128 + l.val) = if 45 / 64 = l.val / 64 then 0x3F80#16 else 0x0000#16 := by decide +kernel
theorem bd46 : ∀ l : Fin 128, lit0t0_46 (46 * 128 + l.val) = if 46 / 64 = l.val / 64 then 0x3F80#16 else 0x0000#16 := by decide +kernel
theorem bd47 : ∀ l : Fin 128, lit0t0_47 (47 * 128 + l.val) = if 47 / 64 = l.val / 64 then 0x3F80#16 else 0x0000#16 := by decide +kernel
theorem bd48 : ∀ l : Fin 128, lit0t0_48 (48 * 128 + l.val) = if 48 / 64 = l.val / 64 then 0x3F80#16 else 0x0000#16 := by decide +kernel
theorem bd49 : ∀ l : Fin 128, lit0t0_49 (49 * 128 + l.val) = if 49 / 64 = l.val / 64 then 0x3F80#16 else 0x0000#16 := by decide +kernel
theorem bd50 : ∀ l : Fin 128, lit0t0_50 (50 * 128 + l.val) = if 50 / 64 = l.val / 64 then 0x3F80#16 else 0x0000#16 := by decide +kernel
theorem bd51 : ∀ l : Fin 128, lit0t0_51 (51 * 128 + l.val) = if 51 / 64 = l.val / 64 then 0x3F80#16 else 0x0000#16 := by decide +kernel
theorem bd52 : ∀ l : Fin 128, lit0t0_52 (52 * 128 + l.val) = if 52 / 64 = l.val / 64 then 0x3F80#16 else 0x0000#16 := by decide +kernel
theorem bd53 : ∀ l : Fin 128, lit0t0_53 (53 * 128 + l.val) = if 53 / 64 = l.val / 64 then 0x3F80#16 else 0x0000#16 := by decide +kernel
theorem bd54 : ∀ l : Fin 128, lit0t0_54 (54 * 128 + l.val) = if 54 / 64 = l.val / 64 then 0x3F80#16 else 0x0000#16 := by decide +kernel
theorem bd55 : ∀ l : Fin 128, lit0t0_55 (55 * 128 + l.val) = if 55 / 64 = l.val / 64 then 0x3F80#16 else 0x0000#16 := by decide +kernel
theorem bd56 : ∀ l : Fin 128, lit0t0_56 (56 * 128 + l.val) = if 56 / 64 = l.val / 64 then 0x3F80#16 else 0x0000#16 := by decide +kernel
theorem bd57 : ∀ l : Fin 128, lit0t0_57 (57 * 128 + l.val) = if 57 / 64 = l.val / 64 then 0x3F80#16 else 0x0000#16 := by decide +kernel
theorem bd58 : ∀ l : Fin 128, lit0t0_58 (58 * 128 + l.val) = if 58 / 64 = l.val / 64 then 0x3F80#16 else 0x0000#16 := by decide +kernel
theorem bd59 : ∀ l : Fin 128, lit0t0_59 (59 * 128 + l.val) = if 59 / 64 = l.val / 64 then 0x3F80#16 else 0x0000#16 := by decide +kernel
theorem bd60 : ∀ l : Fin 128, lit0t0_60 (60 * 128 + l.val) = if 60 / 64 = l.val / 64 then 0x3F80#16 else 0x0000#16 := by decide +kernel
theorem bd61 : ∀ l : Fin 128, lit0t0_61 (61 * 128 + l.val) = if 61 / 64 = l.val / 64 then 0x3F80#16 else 0x0000#16 := by decide +kernel
theorem bd62 : ∀ l : Fin 128, lit0t0_62 (62 * 128 + l.val) = if 62 / 64 = l.val / 64 then 0x3F80#16 else 0x0000#16 := by decide +kernel
theorem bd63 : ∀ l : Fin 128, lit0t0_63 (63 * 128 + l.val) = if 63 / 64 = l.val / 64 then 0x3F80#16 else 0x0000#16 := by decide +kernel
theorem bd64 : ∀ l : Fin 128, lit0t0_64 (64 * 128 + l.val) = if 64 / 64 = l.val / 64 then 0x3F80#16 else 0x0000#16 := by decide +kernel
theorem bd65 : ∀ l : Fin 128, lit0t0_65 (65 * 128 + l.val) = if 65 / 64 = l.val / 64 then 0x3F80#16 else 0x0000#16 := by decide +kernel

end Cert.KernelIdeal.Attn
-- ==== Proof.AttnBd3.lean ====
module

public import proofs.«01_k».proof.KernelIdeal
@[expose] public section
set_option maxRecDepth 16384

/-! The constant matrix of the attention's per-head sums: one within a head's 64 lanes, zero across. -/

noncomputable section
namespace Cert.KernelIdeal.Attn
open Idealize.ShloMosaic
open Cert.KernelIdeal

theorem bd66 : ∀ l : Fin 128, lit0t0_66 (66 * 128 + l.val) = if 66 / 64 = l.val / 64 then 0x3F80#16 else 0x0000#16 := by decide +kernel
theorem bd67 : ∀ l : Fin 128, lit0t0_67 (67 * 128 + l.val) = if 67 / 64 = l.val / 64 then 0x3F80#16 else 0x0000#16 := by decide +kernel
theorem bd68 : ∀ l : Fin 128, lit0t0_68 (68 * 128 + l.val) = if 68 / 64 = l.val / 64 then 0x3F80#16 else 0x0000#16 := by decide +kernel
theorem bd69 : ∀ l : Fin 128, lit0t0_69 (69 * 128 + l.val) = if 69 / 64 = l.val / 64 then 0x3F80#16 else 0x0000#16 := by decide +kernel
theorem bd70 : ∀ l : Fin 128, lit0t0_70 (70 * 128 + l.val) = if 70 / 64 = l.val / 64 then 0x3F80#16 else 0x0000#16 := by decide +kernel
theorem bd71 : ∀ l : Fin 128, lit0t0_71 (71 * 128 + l.val) = if 71 / 64 = l.val / 64 then 0x3F80#16 else 0x0000#16 := by decide +kernel
theorem bd72 : ∀ l : Fin 128, lit0t0_72 (72 * 128 + l.val) = if 72 / 64 = l.val / 64 then 0x3F80#16 else 0x0000#16 := by decide +kernel
theorem bd73 : ∀ l : Fin 128, lit0t0_73 (73 * 128 + l.val) = if 73 / 64 = l.val / 64 then 0x3F80#16 else 0x0000#16 := by decide +kernel
theorem bd74 : ∀ l : Fin 128, lit0t0_74 (74 * 128 + l.val) = if 74 / 64 = l.val / 64 then 0x3F80#16 else 0x0000#16 := by decide +kernel
theorem bd75 : ∀ l : Fin 128, lit0t0_75 (75 * 128 + l.val) = if 75 / 64 = l.val / 64 then 0x3F80#16 else 0x0000#16 := by decide +kernel
theorem bd76 : ∀ l : Fin 128, lit0t0_76 (76 * 128 + l.val) = if 76 / 64 = l.val / 64 then 0x3F80#16 else 0x0000#16 := by decide +kernel
theorem bd77 : ∀ l : Fin 128, lit0t0_77 (77 * 128 + l.val) = if 77 / 64 = l.val / 64 then 0x3F80#16 else 0x0000#16 := by decide +kernel
theorem bd78 : ∀ l : Fin 128, lit0t0_78 (78 * 128 + l.val) = if 78 / 64 = l.val / 64 then 0x3F80#16 else 0x0000#16 := by decide +kernel
theorem bd79 : ∀ l : Fin 128, lit0t0_79 (79 * 128 + l.val) = if 79 / 64 = l.val / 64 then 0x3F80#16 else 0x0000#16 := by decide +kernel
theorem bd80 : ∀ l : Fin 128, lit0t0_80 (80 * 128 + l.val) = if 80 / 64 = l.val / 64 then 0x3F80#16 else 0x0000#16 := by decide +kernel
theorem bd81 : ∀ l : Fin 128, lit0t0_81 (81 * 128 + l.val) = if 81 / 64 = l.val / 64 then 0x3F80#16 else 0x0000#16 := by decide +kernel
theorem bd82 : ∀ l : Fin 128, lit0t0_82 (82 * 128 + l.val) = if 82 / 64 = l.val / 64 then 0x3F80#16 else 0x0000#16 := by decide +kernel
theorem bd83 : ∀ l : Fin 128, lit0t0_83 (83 * 128 + l.val) = if 83 / 64 = l.val / 64 then 0x3F80#16 else 0x0000#16 := by decide +kernel
theorem bd84 : ∀ l : Fin 128, lit0t0_84 (84 * 128 + l.val) = if 84 / 64 = l.val / 64 then 0x3F80#16 else 0x0000#16 := by decide +kernel
theorem bd85 : ∀ l : Fin 128, lit0t0_85 (85 * 128 + l.val) = if 85 / 64 = l.val / 64 then 0x3F80#16 else 0x0000#16 := by decide +kernel
theorem bd86 : ∀ l : Fin 128, lit0t0_86 (86 * 128 + l.val) = if 86 / 64 = l.val / 64 then 0x3F80#16 else 0x0000#16 := by decide +kernel
theorem bd87 : ∀ l : Fin 128, lit0t0_87 (87 * 128 + l.val) = if 87 / 64 = l.val / 64 then 0x3F80#16 else 0x0000#16 := by decide +kernel

end Cert.KernelIdeal.Attn
-- ==== Proof.AttnBd4.lean ====
module

public import proofs.«01_k».proof.KernelIdeal
@[expose] public section
set_option maxRecDepth 16384

/-! The constant matrix of the attention's per-head sums: one within a head's 64 lanes, zero across. -/

noncomputable section
namespace Cert.KernelIdeal.Attn
open Idealize.ShloMosaic
open Cert.KernelIdeal

theorem bd88 : ∀ l : Fin 128, lit0t0_88 (88 * 128 + l.val) = if 88 / 64 = l.val / 64 then 0x3F80#16 else 0x0000#16 := by decide +kernel
theorem bd89 : ∀ l : Fin 128, lit0t0_89 (89 * 128 + l.val) = if 89 / 64 = l.val / 64 then 0x3F80#16 else 0x0000#16 := by decide +kernel
theorem bd90 : ∀ l : Fin 128, lit0t0_90 (90 * 128 + l.val) = if 90 / 64 = l.val / 64 then 0x3F80#16 else 0x0000#16 := by decide +kernel
theorem bd91 : ∀ l : Fin 128, lit0t0_91 (91 * 128 + l.val) = if 91 / 64 = l.val / 64 then 0x3F80#16 else 0x0000#16 := by decide +kernel
theorem bd92 : ∀ l : Fin 128, lit0t0_92 (92 * 128 + l.val) = if 92 / 64 = l.val / 64 then 0x3F80#16 else 0x0000#16 := by decide +kernel
theorem bd93 : ∀ l : Fin 128, lit0t0_93 (93 * 128 + l.val) = if 93 / 64 = l.val / 64 then 0x3F80#16 else 0x0000#16 := by decide +kernel
theorem bd94 : ∀ l : Fin 128, lit0t0_94 (94 * 128 + l.val) = if 94 / 64 = l.val / 64 then 0x3F80#16 else 0x0000#16 := by decide +kernel
theorem bd95 : ∀ l : Fin 128, lit0t0_95 (95 * 128 + l.val) = if 95 / 64 = l.val / 64 then 0x3F80#16 else 0x0000#16 := by decide +kernel
theorem bd96 : ∀ l : Fin 128, lit0t0_96 (96 * 128 + l.val) = if 96 / 64 = l.val / 64 then 0x3F80#16 else 0x0000#16 := by decide +kernel
theorem bd97 : ∀ l : Fin 128, lit0t0_97 (97 * 128 + l.val) = if 97 / 64 = l.val / 64 then 0x3F80#16 else 0x0000#16 := by decide +kernel
theorem bd98 : ∀ l : Fin 128, lit0t0_98 (98 * 128 + l.val) = if 98 / 64 = l.val / 64 then 0x3F80#16 else 0x0000#16 := by decide +kernel
theorem bd99 : ∀ l : Fin 128, lit0t0_99 (99 * 128 + l.val) = if 99 / 64 = l.val / 64 then 0x3F80#16 else 0x0000#16 := by decide +kernel
theorem bd100 : ∀ l : Fin 128, lit0t0_100 (100 * 128 + l.val) = if 100 / 64 = l.val / 64 then 0x3F80#16 else 0x0000#16 := by decide +kernel
theorem bd101 : ∀ l : Fin 128, lit0t0_101 (101 * 128 + l.val) = if 101 / 64 = l.val / 64 then 0x3F80#16 else 0x0000#16 := by decide +kernel
theorem bd102 : ∀ l : Fin 128, lit0t0_102 (102 * 128 + l.val) = if 102 / 64 = l.val / 64 then 0x3F80#16 else 0x0000#16 := by decide +kernel
theorem bd103 : ∀ l : Fin 128, lit0t0_103 (103 * 128 + l.val) = if 103 / 64 = l.val / 64 then 0x3F80#16 else 0x0000#16 := by decide +kernel
theorem bd104 : ∀ l : Fin 128, lit0t0_104 (104 * 128 + l.val) = if 104 / 64 = l.val / 64 then 0x3F80#16 else 0x0000#16 := by decide +kernel
theorem bd105 : ∀ l : Fin 128, lit0t0_105 (105 * 128 + l.val) = if 105 / 64 = l.val / 64 then 0x3F80#16 else 0x0000#16 := by decide +kernel
theorem bd106 : ∀ l : Fin 128, lit0t0_106 (106 * 128 + l.val) = if 106 / 64 = l.val / 64 then 0x3F80#16 else 0x0000#16 := by decide +kernel
theorem bd107 : ∀ l : Fin 128, lit0t0_107 (107 * 128 + l.val) = if 107 / 64 = l.val / 64 then 0x3F80#16 else 0x0000#16 := by decide +kernel
theorem bd108 : ∀ l : Fin 128, lit0t0_108 (108 * 128 + l.val) = if 108 / 64 = l.val / 64 then 0x3F80#16 else 0x0000#16 := by decide +kernel
theorem bd109 : ∀ l : Fin 128, lit0t0_109 (109 * 128 + l.val) = if 109 / 64 = l.val / 64 then 0x3F80#16 else 0x0000#16 := by decide +kernel

end Cert.KernelIdeal.Attn
-- ==== Proof.AttnBd5.lean ====
module

public import proofs.«01_k».proof.KernelIdeal
@[expose] public section
set_option maxRecDepth 16384

/-! The constant matrix of the attention's per-head sums: one within a head's 64 lanes, zero across. -/

noncomputable section
namespace Cert.KernelIdeal.Attn
open Idealize.ShloMosaic
open Cert.KernelIdeal

theorem bd110 : ∀ l : Fin 128, lit0t0_110 (110 * 128 + l.val) = if 110 / 64 = l.val / 64 then 0x3F80#16 else 0x0000#16 := by decide +kernel
theorem bd111 : ∀ l : Fin 128, lit0t0_111 (111 * 128 + l.val) = if 111 / 64 = l.val / 64 then 0x3F80#16 else 0x0000#16 := by decide +kernel
theorem bd112 : ∀ l : Fin 128, lit0t0_112 (112 * 128 + l.val) = if 112 / 64 = l.val / 64 then 0x3F80#16 else 0x0000#16 := by decide +kernel
theorem bd113 : ∀ l : Fin 128, lit0t0_113 (113 * 128 + l.val) = if 113 / 64 = l.val / 64 then 0x3F80#16 else 0x0000#16 := by decide +kernel
theorem bd114 : ∀ l : Fin 128, lit0t0_114 (114 * 128 + l.val) = if 114 / 64 = l.val / 64 then 0x3F80#16 else 0x0000#16 := by decide +kernel
theorem bd115 : ∀ l : Fin 128, lit0t0_115 (115 * 128 + l.val) = if 115 / 64 = l.val / 64 then 0x3F80#16 else 0x0000#16 := by decide +kernel
theorem bd116 : ∀ l : Fin 128, lit0t0_116 (116 * 128 + l.val) = if 116 / 64 = l.val / 64 then 0x3F80#16 else 0x0000#16 := by decide +kernel
theorem bd117 : ∀ l : Fin 128, lit0t0_117 (117 * 128 + l.val) = if 117 / 64 = l.val / 64 then 0x3F80#16 else 0x0000#16 := by decide +kernel
theorem bd118 : ∀ l : Fin 128, lit0t0_118 (118 * 128 + l.val) = if 118 / 64 = l.val / 64 then 0x3F80#16 else 0x0000#16 := by decide +kernel
theorem bd119 : ∀ l : Fin 128, lit0t0_119 (119 * 128 + l.val) = if 119 / 64 = l.val / 64 then 0x3F80#16 else 0x0000#16 := by decide +kernel
theorem bd120 : ∀ l : Fin 128, lit0t0_120 (120 * 128 + l.val) = if 120 / 64 = l.val / 64 then 0x3F80#16 else 0x0000#16 := by decide +kernel
theorem bd121 : ∀ l : Fin 128, lit0t0_121 (121 * 128 + l.val) = if 121 / 64 = l.val / 64 then 0x3F80#16 else 0x0000#16 := by decide +kernel
theorem bd122 : ∀ l : Fin 128, lit0t0_122 (122 * 128 + l.val) = if 122 / 64 = l.val / 64 then 0x3F80#16 else 0x0000#16 := by decide +kernel
theorem bd123 : ∀ l : Fin 128, lit0t0_123 (123 * 128 + l.val) = if 123 / 64 = l.val / 64 then 0x3F80#16 else 0x0000#16 := by decide +kernel
theorem bd124 : ∀ l : Fin 128, lit0t0_124 (124 * 128 + l.val) = if 124 / 64 = l.val / 64 then 0x3F80#16 else 0x0000#16 := by decide +kernel
theorem bd125 : ∀ l : Fin 128, lit0t0_125 (125 * 128 + l.val) = if 125 / 64 = l.val / 64 then 0x3F80#16 else 0x0000#16 := by decide +kernel
theorem bd126 : ∀ l : Fin 128, lit0t0_126 (126 * 128 + l.val) = if 126 / 64 = l.val / 64 then 0x3F80#16 else 0x0000#16 := by decide +kernel
theorem bd127 : ∀ l : Fin 128, lit0t0_127 (127 * 128 + l.val) = if 127 / 64 = l.val / 64 then 0x3F80#16 else 0x0000#16 := by decide +kernel

end Cert.KernelIdeal.Attn
-- ==== Proof.AttnBd.lean ====
module

public import proofs.«01_k».proof.Proof.AttnBd0
public import proofs.«01_k».proof.Proof.AttnBd1
public import proofs.«01_k».proof.Proof.AttnBd2
public import proofs.«01_k».proof.Proof.AttnBd3
public import proofs.«01_k».proof.Proof.AttnBd4
public import proofs.«01_k».proof.Proof.AttnBd5
@[expose] public section
set_option maxRecDepth 16384

/-! The constant matrix of the attention's per-head sums: one within a head's 64 lanes, zero across. -/

noncomputable section
namespace Cert.KernelIdeal.Attn
open Idealize.ShloMosaic
open Cert.KernelIdeal

theorem lit_bd (k l : Fin 128) : lit0t (k.val * 128 + l.val) = if k.val / 64 = l.val / 64 then 0x3F80#16 else 0x0000#16 := by
  have e : (k.val * 128 + l.val) / 128 = k.val := by omega
  unfold lit0t
  rw [e]
  clear e
  obtain ⟨k, hk⟩ := k
  match k, hk with
  | 0, _ => exact bd0 l
  | 1, _ => exact bd1 l
  | 2, _ => exact bd2 l
  | 3, _ => exact bd3 l
  | 4, _ => exact bd4 l
  | 5, _ => exact bd5 l
  | 6, _ => exact bd6 l
  | 7, _ => exact bd7 l
  | 8, _ => exact bd8 l
  | 9, _ => exact bd9 l
  | 10, _ => exact bd10 l
  | 11, _ => exact bd11 l
  | 12, _ => exact bd12 l
  | 13, _ => exact bd13 l
  | 14, _ => exact bd14 l
  | 15, _ => exact bd15 l
  | 16, _ => exact bd16 l
  | 17, _ => exact bd17 l
  | 18, _ => exact bd18 l
  | 19, _ => exact bd19 l
  | 20, _ => exact bd20 l
  | 21, _ => exact bd21 l
  | 22, _ => exact bd22 l
  | 23, _ => exact bd23 l
  | 24, _ => exact bd24 l
  | 25, _ => exact bd25 l
  | 26, _ => exact bd26 l
  | 27, _ => exact bd27 l
  | 28, _ => exact bd28 l
  | 29, _ => exact bd29 l
  | 30, _ => exact bd30 l
  | 31, _ => exact bd31 l
  | 32, _ => exact bd32 l
  | 33, _ => exact bd33 l
  | 34, _ => exact bd34 l
  | 35, _ => exact bd35 l
  | 36, _ => exact bd36 l
  | 37, _ => exact bd37 l
  | 38, _ => exact bd38 l
  | 39, _ => exact bd39 l
  | 40, _ => exact bd40 l
  | 41, _ => exact bd41 l
  | 42, _ => exact bd42 l
  | 43, _ => exact bd43 l
  | 44, _ => exact bd44 l
  | 45, _ => exact bd45 l
  | 46, _ => exact bd46 l
  | 47, _ => exact bd47 l
  | 48, _ => exact bd48 l
  | 49, _ => exact bd49 l
  | 50, _ => exact bd50 l
  | 51, _ => exact bd51 l
  | 52, _ => exact bd52 l
  | 53, _ => exact bd53 l
  | 54, _ => exact bd54 l
  | 55, _ => exact bd55 l
  | 56, _ => exact bd56 l
  | 57, _ => exact bd57 l
  | 58, _ => exact bd58 l
  | 59, _ => exact bd59 l
  | 60, _ => exact bd60 l
  | 61, _ => exact bd61 l
  | 62, _ => exact bd62 l
  | 63, _ => exact bd63 l
  | 64, _ => exact bd64 l
  | 65, _ => exact bd65 l
  | 66, _ => exact bd66 l
  | 67, _ => exact bd67 l
  | 68, _ => exact bd68 l
  | 69, _ => exact bd69 l
  | 70, _ => exact bd70 l
  | 71, _ => exact bd71 l
  | 72, _ => exact bd72 l
  | 73, _ => exact bd73 l
  | 74, _ => exact bd74 l
  | 75, _ => exact bd75 l
  | 76, _ => exact bd76 l
  | 77, _ => exact bd77 l
  | 78, _ => exact bd78 l
  | 79, _ => exact bd79 l
  | 80, _ => exact bd80 l
  | 81, _ => exact bd81 l
  | 82, _ => exact bd82 l
  | 83, _ => exact bd83 l
  | 84, _ => exact bd84 l
  | 85, _ => exact bd85 l
  | 86, _ => exact bd86 l
  | 87, _ => exact bd87 l
  | 88, _ => exact bd88 l
  | 89, _ => exact bd89 l
  | 90, _ => exact bd90 l
  | 91, _ => exact bd91 l
  | 92, _ => exact bd92 l
  | 93, _ => exact bd93 l
  | 94, _ => exact bd94 l
  | 95, _ => exact bd95 l
  | 96, _ => exact bd96 l
  | 97, _ => exact bd97 l
  | 98, _ => exact bd98 l
  | 99, _ => exact bd99 l
  | 100, _ => exact bd100 l
  | 101, _ => exact bd101 l
  | 102, _ => exact bd102 l
  | 103, _ => exact bd103 l
  | 104, _ => exact bd104 l
  | 105, _ => exact bd105 l
  | 106, _ => exact bd106 l
  | 107, _ => exact bd107 l
  | 108, _ => exact bd108 l
  | 109, _ => exact bd109 l
  | 110, _ => exact bd110 l
  | 111, _ => exact bd111 l
  | 112, _ => exact bd112 l
  | 113, _ => exact bd113 l
  | 114, _ => exact bd114 l
  | 115, _ => exact bd115 l
  | 116, _ => exact bd116 l
  | 117, _ => exact bd117 l
  | 118, _ => exact bd118 l
  | 119, _ => exact bd119 l
  | 120, _ => exact bd120 l
  | 121, _ => exact bd121 l
  | 122, _ => exact bd122 l
  | 123, _ => exact bd123 l
  | 124, _ => exact bd124 l
  | 125, _ => exact bd125 l
  | 126, _ => exact bd126 l
  | 127, _ => exact bd127 l
  | _ + 128, h => exact absurd h (by omega)

end Cert.KernelIdeal.Attn
-- ==== Proof.AttnBlocks.lean ====
module

public import proofs.«01_k».proof.Proof.AttnOut
public import proofs.«01_k».proof.Proof.AttnValFrame
public import proofs.«01_k».proof.Proof.AttnRefAll
public import proofs.«01_k».proof.Proof.AttnBd
public import Idealize.ShloMosaic.Lib.Claim
@[expose] public section
set_option maxRecDepth 16384

/-! The attention call's array of context rows is the plain attention's, on finite arguments. -/

noncomputable section
namespace Cert.KernelIdeal.Attn
open Idealize.ShloMosaic Idealize.ShloMosaic.TcCoe Idealize.SL.Sem
open Idealize.ShloMosaic.Pipeline (Dat)
open Cert.KernelIdeal Cert.KernelIdeal.Gen
open _root_.Attn (lane IsReal)

variable (m : (ℓ : Loc nD τ sig) → Buf (Elt Ideal) ℓ)

/-- Which block of its array each window holds at a grid point. -/
theorem idx : ∀ t : Fin cfg0.N, win0_0.index t = ![t.val, 0] ∧ win0_2.index t = ![0, 0, 0]
    ∧ win0_3.index t = ![0, 0, 0] ∧ win0_4.index t = ![0, 0, 0] ∧ win0_5.index t = ![0, 0, 0]
    ∧ win0_8.index t = ![0, 0] ∧ win0_9.index t = ![t.val, 0] :=
  (by decide +kernel : ∀ t : Fin grid0.N, _)

theorem pt_lt (t : Fin cfg0.N) : t.val < 16 := t.isLt

theorem blk0 (c : Dev nD) (t : Fin cfg0.N) (s : Fin 256) (e : Fin 1024) : iblk m c 0 t (ix2 s e) =
    m ((c : Thread nD τ).loc main_arg0) (ix3 ⟨t.val, pt_lt t⟩ s e) := by
  blk_simp [iblk]
  entry_read
  pointwise
  blk_point [idx t]

theorem blk2 (c : Dev nD) (t : Fin cfg0.N) (e : Fin 1024) (j : Fin 768) : iblk m c 2 t (ix3 0 e j) =
    m ((c : Thread nD τ).loc main_arg2) (ix3 0 e ⟨j.val, by omega⟩) := by
  blk_simp [iblk]
  entry_read
  pointwise
  blk_point [idx t]

theorem blk3 (c : Dev nD) (t : Fin cfg0.N) (h : Fin 2) (d : Fin 64) : iblk m c 3 t (ix3 0 0 (lane h d)) =
    (show EReal from m ((c : Thread nD τ).loc main_arg3) (ix3 0 0 d)) * Ideal.ofBits .f32 0x3E000000#32 := by
  blk_simp [iblk]
  entry_read
  pointwise
  blk_point [idx t]
  all_goals (simp only [lane]; omega)

theorem blk4 (c : Dev nD) (t : Fin cfg0.N) (h : Fin 2) (d : Fin 64) : iblk m c 4 t (ix3 0 0 (lane h d)) =
    m ((c : Thread nD τ).loc main_arg3) (ix3 0 1 d) := by
  blk_simp [iblk]
  entry_read
  pointwise
  blk_point [idx t]
  all_goals (simp only [lane]; omega)

theorem blk5 (c : Dev nD) (t : Fin cfg0.N) (h : Fin 8) : iblk m c 5 t (ix3 0 h 0) =
    m ((c : Thread nD τ).loc main_arg4) (ix2 0 h) := by
  blk_simp [iblk]
  entry_read
  pointwise
  blk_point [idx t]

theorem blk8 (c : Dev nD) (t : Fin cfg0.N) (k l : Fin 128) : (show EReal from iblk m c 8 t (ix2 k l)) =
    if k.val / 64 = l.val / 64 then 1 else 0 := by
  blk_simp [iblk]
  entry_read
  have e : (win0_8.blk t).view.emb (ix2 k l) = ix2 k l := by blk_ext [idx t]
  have e1 : S128x128.rowMajor (ix2 k l) = (⟨k.val * 128 + l.val, by omega⟩ : Fin 16384) := Fin.ext (rowMajor_val2 _ 128 rfl)
  show Ideal.ofBits .bf16 (lit0 (S128x128.rowMajor ((win0_8.blk t).view.emb (ix2 k l)))) = _
  rw [e, e1]
  show Ideal.ofBits .bf16 (lit0t (k.val * 128 + l.val)) = _
  rw [lit_bd]
  split
  · simp [Ideal.ofBits, Ideal.ieee]
    norm_cast
    norm_num
  · simp [Ideal.ofBits, Ideal.ieee]

theorem emb9 (t : Fin cfg0.N) (r : Fin 256) (l : Fin 512) :
    ((View.whole main_v56_0).slice (win0_9.rect t)).emb (ix2 r l) =
      ix2 (⟨t.val * 256 + r.val, by have := pt_lt t; omega⟩ : Fin 4096) l := by
  blk_ext [idx t]

/-- The array of context rows, where every entry the precondition names is a real. -/
theorem final9 (c : Dev nD)
    (r0 : ∀ i, IsReal (m ((c : Thread nD τ).loc main_arg0) i))
    (r2 : ∀ (e : Fin 1024) (k : Fin 768), IsReal (m ((c : Thread nD τ).loc main_arg2) (ix3 0 e ⟨k.val, by omega⟩)))
    (r3 : ∀ (i : Fin 2) (d : Fin 64), IsReal (m ((c : Thread nD τ).loc main_arg3) (ix3 0 i d)))
    (r4 : ∀ q : Fin 8, IsReal (m ((c : Thread nD τ).loc main_arg4) (ix2 0 q))) :
    (dats m 0 c).arrAt 9 (cfgs 0).N =
      Cert.ReferenceIdeal.Read.val_main_v203 (m ((c : Thread nD τ).loc main_arg0)) (m ((c : Thread nD τ).loc main_arg2))
        (m ((c : Thread nD τ).loc main_arg3)) (m ((c : Thread nD τ).loc main_arg4)) := by
  refine (dats m 0 c).arrAt_eq_of_covers 9 _ (by decide +kernel) fun t _ y => ?_
  blk_simp
  rw [after0_9]
  idx_vars y
  rw [emb9, Cert.ReferenceIdeal.Out.ref_at]
  refine (out9 c (grid0.coords t) _ _ _ _ _ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t)
    (N := fun i k => m ((c : Thread nD τ).loc main_arg3) (ix3 0 i k)) (fun s e => by rw [blk0]; exact r0 _)
    (fun e j => by rw [blk2]; exact r2 e j) r3 (fun h => by rw [blk5]; exact r4 h) (blk3 m c t) (blk4 m c t) (blk8 m c t) y0 y1).trans ?_
  simp only [blk0, blk2, blk5]
  have e1 : (t.val * 256 + y0.val) / 256 = t.val := by omega
  have e2 : (t.val * 256 + y0.val) % 256 = y0.val := by omega
  simp only [e1, e2]

end Cert.KernelIdeal.Attn
-- ==== Proof.AttnFinite.lean ====
module

public import proofs.«01_k».proof.Proof.Gen.Pre_finite
public import proofs.«01_k».proof.Proof.Gen.On_context_rows
public import proofs.«01_k».proof.Proof.AttnPack
public import Idealize.ShloMosaic.Lib.ReduceAll
public import Idealize.ShloMosaic.Lib.Pipeline.ValueKit
@[expose] public section
set_option maxRecDepth 16384

/-! What the precondition says of the arguments' entries, and what the mask selects. -/

noncomputable section
namespace Cert.Pre_finite
open Idealize.ShloMosaic
open _root_.Attn (IsReal)

instance : Subsingleton S_.Idx := ⟨fun a b => funext fun i => i.elim0⟩

/-- An extended real of finite magnitude is a real. -/
theorem real_of_abs {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable [Facts] (a0 : Vec Ideal S16x256x1024 .f32) (a1 : Vec Ideal S16x2048x1024 .f32) (a2 : Vec Ideal S4x1024x8464 .f32)
  (a3 : Vec Ideal S4x2x64 .f32) (a4 : Vec Ideal S4x8 .f32) (j : S_.Idx)

theorem split_fn (h : fn (F := Ideal) a0 a1 a2 a3 a4 j = 1#1) :
    (∀ i, IsReal (a0 i)) ∧ (∀ (e : Fin 1024) (k : Fin 768), IsReal (a2 (ix3 0 e ⟨k.val, by omega⟩)))
      ∧ (∀ (i : Fin 2) (d : Fin 64), IsReal (a3 (ix3 0 i d))) ∧ ∀ q : Fin 8, IsReal (a4 (ix2 0 q)) := by
  dsimp only [fn, fn_part1] at h
  obtain ⟨h, h4⟩ := IntOp.andi_eq_one.1 h
  obtain ⟨h, h3⟩ := IntOp.andi_eq_one.1 h
  obtain ⟨h0, h2⟩ := IntOp.andi_eq_one.1 h
  refine ⟨fun i => ?_, fun e k => ?_, fun i d => ?_, fun q => ?_⟩
  · exact real_of_abs (Host.reduce_andi_all _ _ _ _ _ h0 i)
  · have := Host.reduce_andi_all _ _ _ _ _ h2 (ix2 e k)
    pointwise at this
    exact real_of_abs this
  · have := Host.reduce_andi_all _ _ _ _ _ h3 (ix2 i d)
    pointwise at this
    exact real_of_abs this
  · have := Host.reduce_andi_all _ _ _ _ _ h4 (ix1 q)
    pointwise at this
    exact real_of_abs this

end Cert.Pre_finite

namespace Cert.On_context_rows
open Idealize.ShloMosaic

/-- The mask selects nothing of the second result. -/
theorem snd_ne [Facts] {F : FTy → Type} [FloatOps F] (a0 : FVec F S16x256x1024 .f32) (a1 : FVec F S16x2048x1024 .f32)
    (a2 : FVec F S4x1024x8464 .f32) (a3 : FVec F S4x2x64 .f32) (a4 : FVec F S4x8 .f32) (i : S32768x512.Idx) :
    (fn a0 a1 a2 a3 a4).2 i ≠ 1#1 := by
  show (0#1 : BitVec 1) ≠ 1#1
  decide

end Cert.On_context_rows
-- ==== Proof.AttnValClaim.lean ====
module

public import proofs.«01_k».proof.Proof.AttnClaim
public import proofs.«01_k».proof.Proof.AttnBlocks
public import proofs.«01_k».proof.Proof.AttnFinite
@[expose] public section
set_option maxRecDepth 16384

/-! The claim about the attention call's context rows. -/

noncomputable section
namespace Cert.Proof
open Idealize.ShloMosaic Idealize.SL.Sem

instance factsPre_finite : Cert.Pre_finite.Facts := Cert.Pre_finite.Gen.facts
instance factsOn_context_rows : Cert.On_context_rows.Facts := Cert.On_context_rows.Gen.facts

theorem frame_kernelIdeal_finite : Cert.quiescent_KernelIdeal_pre_finite := fun m g _ => Cert.KernelIdeal.AttnFrame.frame m g
theorem frame_referenceIdeal_finite : Cert.quiescent_ReferenceIdeal_pre_finite := fun m g _ => frame_referenceIdeal m g trivial

/-- The kernel's context rows are the plain attention's, where the precondition holds. -/
theorem value : Cert.algebraic_KernelIdeal_ReferenceIdeal_on_context_rows_pre_finite := by
  intro m g m' g' hpre hagree
  refine ⟨fun c => Cert.ReferenceIdeal.Read.val_main_v203 (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_v56_1), ?_, ?_⟩
  · refine (θ_run Cert.KernelIdeal.defs _ _).mono (fun r h c => ?_) (Cert.KernelIdeal.Attn.run9 m g)
    obtain ⟨r0, r2, r3, r4⟩ := Cert.Pre_finite.split_fn _ _ _ _ _ (fun i => i.elim0) (congrFun (hpre c) _)
    refine ⟨fun i _ => ?_, fun i hi => absurd hi (Cert.On_context_rows.snd_ne _ _ _ _ _ i), (h c).2⟩
    rw [(h c).1, Cert.KernelIdeal.Attn.final9 m c r0 r2 r3 r4]
  · refine (θ_run Cert.ReferenceIdeal.defs _ _).mono (fun r h c => ?_) (Cert.ReferenceIdeal.Value.run m' g')
    refine ⟨fun i _ => ?_, fun i hi => absurd hi (Cert.On_context_rows.snd_ne _ _ _ _ _ i), (h c).2.2⟩
    have e : r.2.mem ((c.tc : Thread Cert.ReferenceIdeal.nD Cert.ReferenceIdeal.τ).loc Cert.ReferenceIdeal.main_v203) =
        Cert.ReferenceIdeal.Read.val_main_v203 (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) :=
      (h c).1.trans (Cert.ReferenceIdeal.Read.val_main_v203_eq (F := Ideal) (StableHlo.launchContents m' c))
    obtain ⟨e0, e1, e2, e3, e4⟩ := hagree c
    rw [e, e0, e2, e3, e4]

end Cert.Proof
-- ==== Proof.FfnMath.lean ====
module

public import Idealize.ShloMosaic.Lib.Pointwise
public import Idealize.ShloMosaic.PureOps.Ideal.Laws
@[expose] public section
set_option maxRecDepth 16384

/-! The feed-forward half step of one token, as a function of that token's row and of the weights. -/

noncomputable section
namespace Ffn
open Idealize.ShloMosaic

/-- A row scaled to unit mean square, times a gain, then scaled and shifted. -/
def modNorm (x g sc sh : Fin 1024 → EReal) (d : Fin 1024) : EReal :=
  x d * Ideal.rsqrt (Ideal.div (∑ k : Fin 1024, x k * x k) (Ideal.ofBits .f32 0x44800000#32)
      + Ideal.ofBits .f32 0x358637BD#32) * g d * (1 + sc d) + sh d

/-- The gate of hidden unit `k`. -/
def gate (h : Fin 1024 → EReal) (W : Fin 1024 → Fin 5632 → EReal) (k : Fin 2816) : EReal :=
  ∑ d : Fin 1024, h d * W d ⟨k.val, by omega⟩

/-- The value of hidden unit `k` before its gate. -/
def up (h : Fin 1024 → EReal) (W : Fin 1024 → Fin 5632 → EReal) (k : Fin 2816) : EReal :=
  ∑ d : Fin 1024, h d * W d ⟨2816 + k.val, by omega⟩

/-- The gated hidden unit `k`. -/
def act (h : Fin 1024 → EReal) (W : Fin 1024 → Fin 5632 → EReal) (k : Fin 2816) : EReal :=
  gate h W k * Ideal.logistic (gate h W k) * up h W k

/-- The token's row after the half step. -/
def step (x : Fin 1024 → EReal) (a : EReal → EReal) (h : Fin 1024 → EReal)
    (W : Fin 1024 → Fin 5632 → EReal) (D : Fin 2816 → Fin 1024 → EReal) (l : Fin 1024) : EReal :=
  x l + a (∑ k : Fin 2816, act h W k * D k l)

/-- A sum of eleven terms, from the first on. -/
theorem sum_eleven (g : Fin 11 → EReal) :
    ∑ j, g j = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

/-- A sum over the 2816 hidden units is the sum of its eleven tiles of 256, taken one after another. -/
theorem sum_tiles (f : Fin 2816 → EReal) :
    ∑ k : Fin 2816, f k =
      (((((((((((∑ t : Fin 256, f ⟨t.val, by omega⟩)
        + ∑ t : Fin 256, f ⟨256 + t.val, by omega⟩)
        + ∑ t : Fin 256, f ⟨512 + t.val, by omega⟩)
        + ∑ t : Fin 256, f ⟨768 + t.val, by omega⟩)
        + ∑ t : Fin 256, f ⟨1024 + t.val, by omega⟩)
        + ∑ t : Fin 256, f ⟨1280 + t.val, by omega⟩)
        + ∑ t : Fin 256, f ⟨1536 + t.val, by omega⟩)
        + ∑ t : Fin 256, f ⟨1792 + t.val, by omega⟩)
        + ∑ t : Fin 256, f ⟨2048 + t.val, by omega⟩)
        + ∑ t : Fin 256, f ⟨2304 + t.val, by omega⟩)
        + ∑ t : Fin 256, f ⟨2560 + t.val, by omega⟩) := by
  rw [Fin.sum_univ_tiles 11 256 rfl f, sum_eleven]
  simp only [Fin.val_zero, Fin.val_one, Fin.isValue]
  rfl

end Ffn
-- ==== Proof.FfnOut.lean ====
module

public import proofs.«01_k».proof.Proof.Gen.Kernel2Ideal.Frame
public import proofs.«01_k».proof.Proof.FfnMath
public import Idealize.ShloMosaic.Lib.Pipeline.ValueKit
@[expose] public section
set_option maxRecDepth 16384

/-! What the body of the feed-forward kernel leaves in its two output blocks, element by element. -/

noncomputable section
namespace Cert.Kernel2Ideal.Out
open Idealize.ShloMosaic Idealize.ShloMosaic.TcCoe Idealize.SL.Sem
open Cert.Kernel2Ideal Cert.Kernel2Ideal.Gen

/-- The normalised and modulated block, at a token and a channel. -/
theorem hs (x : Vec Ideal S1024x1024 .f32) (g sc sh : Vec Ideal S1x1x1x1024 .f32) (r d : Fin 1024) :
    k0_pay3 x g sc sh (ix2 r d) =
      Ffn.modNorm (fun k => x (ix2 r k)) (fun k => g (ix4 0 0 0 k)) (fun k => sc (ix4 0 0 0 k))
        (fun k => sh (ix4 0 0 0 k)) d := by
  unfold Ffn.modNorm
  pointwise [k0_pay3, k0_pay2]

/-- The first output block, at a token and a channel. -/
theorem out6 (x0 : Vec Ideal S1024x1024 .f32) (x1 : Vec Ideal S1x1x9x1024 .f32)
    (x2 : Vec Ideal S1x1x1x1024 .f32) (x3 : Vec Ideal S1x1x1024x5632 .bf16)
    (x4 : Vec Ideal S1x1x2816x1024 .bf16) (x5 : Vec Ideal S1x1x1x1024 .f32) (r l : Fin 1024) :
    out0_6 x0 x1 x2 x3 x4 x5 (ix2 r l) =
      Ffn.step (fun d => x0 (ix2 r d)) (fun s => Ideal.ofBits .f32 0x3F000000#32 * x1 (ix4 0 0 2 l) * s)
        (Ffn.modNorm (fun k => x0 (ix2 r k)) (fun k => x2 (ix4 0 0 0 k)) (fun k => x1 (ix4 0 0 1 k))
        (fun k => x1 (ix4 0 0 0 k))) (fun d k => x3 (ix4 0 0 d k)) (fun k l => x4 (ix4 0 0 k l)) l := by
  unfold Ffn.step
  rw [Ffn.sum_tiles]
  unfold_out out0_6
  frame_out
  have hh : ∀ d, k0_pay3 x0 x2 (View.ld x1 r0_2) (View.ld x1 r0_3) (ix2 r d) =
      Ffn.modNorm (fun k => x0 (ix2 r k)) (fun k => x2 (ix4 0 0 0 k)) (fun k => x1 (ix4 0 0 1 k))
        (fun k => x1 (ix4 0 0 0 k)) d := fun d => by
    rw [hs]
    pointwise
  generalize Ffn.modNorm (fun k => x0 (ix2 r k)) (fun k => x2 (ix4 0 0 0 k)) (fun k => x1 (ix4 0 0 1 k))
        (fun k => x1 (ix4 0 0 0 k)) = n at hh ⊢
  unfold k0_pay4
  generalize k0_pay3 x0 x2 (View.ld x1 r0_2) (View.ld x1 r0_3) = H at hh ⊢
  obtain rfl : (fun d => H (ix2 r d)) = n := funext hh
  clear hh
  unfold Ffn.act Ffn.gate Ffn.up
  pointwise [k0_pay2, k0_pay5, k0_pay6, k0_pay7, k0_pay8, k0_pay9, k0_pay10, k0_pay11, k0_pay12, k0_pay13,
    k0_pay14, k0_pay15, k0_pay16, k0_pay17, k0_pay18]
  simp only [← Nat.add_assoc, Nat.reduceAdd]

/-- The second output block: the first one's row, normalised and modulated. -/
theorem out7 (x0 : Vec Ideal S1024x1024 .f32) (x1 : Vec Ideal S1x1x9x1024 .f32)
    (x2 : Vec Ideal S1x1x1x1024 .f32) (x3 : Vec Ideal S1x1x1024x5632 .bf16)
    (x4 : Vec Ideal S1x1x2816x1024 .bf16) (x5 : Vec Ideal S1x1x1x1024 .f32) (r l : Fin 1024) :
    out0_7 x0 x1 x2 x3 x4 x5 (ix2 r l) =
      Ffn.modNorm (fun d => out0_6 x0 x1 x2 x3 x4 x5 (ix2 r d)) (fun k => x5 (ix4 0 0 0 k))
        (fun k => x1 (ix4 0 0 4 k)) (fun k => x1 (ix4 0 0 3 k)) l := by
  unfold Ffn.modNorm out0_7 out0_6
  frame_out
  pointwise [k0_pay1, k0_pay19]

end Cert.Kernel2Ideal.Out
-- ==== Proof.FfnRef.lean ====
module

public import proofs.«01_k».proof.Proof.Gen.Reference2Ideal.Read
public import proofs.«01_k».proof.Proof.FfnMath
@[expose] public section
set_option maxRecDepth 16384

/-! What the plain feed-forward half step computes, element by element. -/

noncomputable section
namespace Cert.Reference2Ideal.Out
open Idealize.ShloMosaic Idealize.ShloMosaic.TcCoe Idealize.SL.Sem
open Cert.Reference2Ideal Cert.Reference2Ideal.Gen Cert.Reference2Ideal.Read

variable (x0 : (⟨S16x2048x1024, .f32⟩ : BufTy).Contents (Elt Ideal))
  (x1 : (⟨S4x24x9x1024, .f32⟩ : BufTy).Contents (Elt Ideal))
  (x2 : (⟨S4x3x1024, .f32⟩ : BufTy).Contents (Elt Ideal))
  (x3 : (⟨S4x2x1024x5632, .f32⟩ : BufTy).Contents (Elt Ideal))
  (x4 : (⟨S4x2x2816x1024, .f32⟩ : BufTy).Contents (Elt Ideal))

/-- The normalised and modulated stream, at a token and a channel. -/
theorem hs (b : Fin 16) (t : Fin 2048) (d : Fin 1024) :
    val_main_v53 x0 x1 x2 (ix3 b t d) =
      Ffn.modNorm (fun k => x0 (ix3 b t k)) (fun k => x2 (ix3 0 0 k))
        (fun k => x1 (ix4 0 ⟨b.val, by omega⟩ 1 k)) (fun k => x1 (ix4 0 ⟨b.val, by omega⟩ 0 k)) d := by
  unfold Ffn.modNorm
  pointwise [val_main_v53, val_main_v52, val_main_v51, val_main_v50, val_main_v49, val_main_v48, val_main_cst_2,
    val_main_v47, val_main_v46, val_main_v45, val_main_v44, val_main_v43, val_main_v42, val_main_v41, val_main_v40,
    val_main_cst_1, val_main_v39, val_main_v38, val_main_cst_0, val_main_v37, val_main_v36, val_main_cst,
    val_main_v35, val_main_v34, val_main_v33, val_main_v28, val_main_v27, val_main_v5, val_main_v4, val_main_v3,
    val_main_v2, val_main_v1, val_main_v0]

/-- The gated hidden layer. -/
theorem act (b : Fin 16) (t : Fin 2048) (k : Fin 2816) :
    val_main_v64 x0 x1 x2 x3 (ix3 b t k) =
      Ffn.act (fun d => val_main_v53 x0 x1 x2 (ix3 b t d)) (fun d k => x3 (ix4 0 0 d k)) k := by
  unfold Ffn.act Ffn.gate Ffn.up Ideal.logistic
  pointwise [val_main_v64, val_main_v63, val_main_call0_v5, val_main_call0_v4, val_main_call0_cst_0,
    val_main_call0_v3, val_main_call0_v2, val_main_call0_cst, val_main_call0_v1, val_main_call0_v0,
    val_main_v62, val_main_v61, val_main_v60, val_main_v57, val_main_v56, val_main_v30, val_main_v29]

/-- The stream after the half step. -/
theorem xl (b : Fin 16) (t : Fin 2048) (l : Fin 1024) :
    val_main_v68 x0 x1 x2 x3 x4 (ix3 b t l) =
      Ffn.step (fun d => x0 (ix3 b t d))
        (fun s => Ideal.ofBits .f32 0x3F000000#32 * x1 (ix4 0 ⟨b.val, by omega⟩ 2 l) * s)
        (Ffn.modNorm (fun k => x0 (ix3 b t k)) (fun k => x2 (ix3 0 0 k))
        (fun k => x1 (ix4 0 ⟨b.val, by omega⟩ 1 k)) (fun k => x1 (ix4 0 ⟨b.val, by omega⟩ 0 k)))
        (fun d k => x3 (ix4 0 0 d k)) (fun k l => x4 (ix4 0 0 k l)) l := by
  unfold Ffn.step
  have hn := funext (hs x0 x1 x2 b t)
  rw [← hn]
  simp only [← act]
  pointwise [val_main_v68, val_main_v67, val_main_v66, val_main_v55, val_main_v54, val_main_cst_3,
    val_main_v65, val_main_v59, val_main_v58, val_main_v32, val_main_v31, val_main_v8, val_main_v7, val_main_v6]

/-- The next block's input: the stream after the half step, normalised and modulated. -/
theorem hl (b : Fin 16) (t : Fin 2048) (l : Fin 1024) :
    val_main_v89 x0 x1 x2 x3 x4 (ix3 b t l) =
      Ffn.modNorm (fun d => val_main_v68 x0 x1 x2 x3 x4 (ix3 b t d)) (fun k => x2 (ix3 0 1 k))
        (fun k => x1 (ix4 0 ⟨b.val, by omega⟩ 4 k)) (fun k => x1 (ix4 0 ⟨b.val, by omega⟩ 3 k)) l := by
  unfold Ffn.modNorm
  pointwise [val_main_v89, val_main_v88, val_main_v87, val_main_v86, val_main_v85, val_main_v84, val_main_cst_7,
    val_main_v83, val_main_v82, val_main_v81, val_main_v80, val_main_v79, val_main_v78, val_main_v77, val_main_v76,
    val_main_cst_6, val_main_v75, val_main_v74, val_main_cst_5, val_main_v73, val_main_v72, val_main_cst_4,
    val_main_v71, val_main_v70, val_main_v69, val_main_v28, val_main_v27, val_main_v14, val_main_v13, val_main_v12,
    val_main_v11, val_main_v10, val_main_v9]

/-- The first result lists the tokens of all the batches one after another. -/
theorem res90 (R : Fin 32768) (l : Fin 1024) :
    val_main_v90 x0 x1 x2 x3 x4 (ix2 R l) =
      val_main_v68 x0 x1 x2 x3 x4 (ix3 ⟨R.val / 2048, by omega⟩ ⟨R.val % 2048, by omega⟩ l) := by
  pointwise [val_main_v90]

/-- So does the second. -/
theorem res92 (R : Fin 32768) (l : Fin 1024) :
    val_main_v92 x0 x1 x2 x3 x4 (ix2 R l) =
      val_main_v89 x0 x1 x2 x3 x4 (ix3 ⟨R.val / 2048, by omega⟩ ⟨R.val % 2048, by omega⟩ l) := by
  pointwise [val_main_v92, val_main_v91]

end Cert.Reference2Ideal.Out
-- ==== Proof.FfnBlocks.lean ====
module

public import proofs.«01_k».proof.Proof.FfnOut
public import proofs.«01_k».proof.Proof.FfnRef
public import Idealize.ShloMosaic.Lib.Claim
@[expose] public section
set_option maxRecDepth 16384

/-! The feed-forward kernel's two result arrays are the plain half step's. -/

noncomputable section
namespace Cert.Kernel2Ideal.Blocks
open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Which block of its array each window holds at a grid point. -/
theorem idx : ∀ t : Fin cfg0.N, win0_0.index t = ![t.val, 0] ∧ win0_1.index t = ![0, t.val / 2, 0, 0]
    ∧ win0_2.index t = ![0, 0, 0, 0] ∧ win0_3.index t = ![0, 0, 0, 0] ∧ win0_4.index t = ![0, 0, 0, 0]
    ∧ win0_5.index t = ![0, 1, 0, 0] ∧ win0_6.index t = ![t.val, 0] ∧ win0_7.index t = ![t.val, 0] :=
  (by decide +kernel : ∀ t : Fin grid0.N, _)

/-- Row `r` of the block of point `t`, in the array of all tokens. -/
abbrev row (t : Fin cfg0.N) (r : Fin 1024) : Fin 32768 :=
  ⟨t.val * 1024 + r.val, by have : t.val < 32 := t.isLt; omega⟩

theorem blk0 (c : Dev nD) (t : Fin cfg0.N) (r d : Fin 1024) : iblk m c 0 t (ix2 r d) =
    m ((c : Thread nD τ).loc main_arg0) (ix3 ⟨(row t r).val / 2048, by have := (row t r).isLt; omega⟩
      ⟨(row t r).val % 2048, by omega⟩ d) := by
  blk_simp [iblk]
  entry_read
  pointwise
  blk_point [idx t]

theorem blk1 (c : Dev nD) (t : Fin cfg0.N) (r : Fin 1024) (k : Fin 9) (d : Fin 1024) : iblk m c 1 t (ix4 0 0 k d) =
    m ((c : Thread nD τ).loc main_arg1) (ix4 0 ⟨(row t r).val / 2048, by have := (row t r).isLt; omega⟩ k d) := by
  blk_point [iblk, V, idx t]

theorem blk2 (c : Dev nD) (t : Fin cfg0.N) (d : Fin 1024) : iblk m c 2 t (ix4 0 0 0 d) =
    m ((c : Thread nD τ).loc main_arg2) (ix3 0 0 d) := by
  blk_simp [iblk]
  entry_read
  pointwise
  blk_point [idx t]

theorem blk3 (c : Dev nD) (t : Fin cfg0.N) (d : Fin 1024) (k : Fin 5632) : iblk m c 3 t (ix4 0 0 d k) =
    m ((c : Thread nD τ).loc main_arg3) (ix4 0 0 d k) := by
  blk_simp [iblk]
  entry_read
  pointwise
  blk_point [idx t]

theorem blk4 (c : Dev nD) (t : Fin cfg0.N) (k : Fin 2816) (d : Fin 1024) : iblk m c 4 t (ix4 0 0 k d) =
    m ((c : Thread nD τ).loc main_arg4) (ix4 0 0 k d) := by
  blk_simp [iblk]
  entry_read
  pointwise
  blk_point [idx t]

theorem blk5 (c : Dev nD) (t : Fin cfg0.N) (d : Fin 1024) : iblk m c 5 t (ix4 0 0 0 d) =
    m ((c : Thread nD τ).loc main_arg2) (ix3 0 1 d) := by
  blk_simp [iblk]
  entry_read
  pointwise
  blk_point [idx t]

theorem emb6 (t : Fin cfg0.N) (r l : Fin 1024) :
    ((View.whole main_v4_0).slice (win0_6.rect t)).emb (ix2 r l) = ix2 (row t r) l := by
  blk_ext [idx t]

theorem emb7 (t : Fin cfg0.N) (r l : Fin 1024) :
    ((View.whole main_v4_1).slice (win0_7.rect t)).emb (ix2 r l) = ix2 (row t r) l := by
  blk_ext [idx t]

/-- The first result array. -/
theorem final6 (c : Dev nD) : (dats m 0 c).arrAt 6 (cfgs 0).N =
    Cert.Reference2Ideal.Read.val_main_v90 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 6 _ (by decide +kernel) fun t _ y => ?_
  blk_simp
  rw [after0_6]
  idx_vars y
  rw [emb6, Cert.Reference2Ideal.Out.res90, Cert.Reference2Ideal.Out.xl, Cert.Kernel2Ideal.Out.out6]
  simp only [blk0, blk1 m c t y0, blk2, blk3, blk4]

/-- The second result array. -/
theorem final7 (c : Dev nD) : (dats m 0 c).arrAt 7 (cfgs 0).N =
    Cert.Reference2Ideal.Read.val_main_v92 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 7 _ (by decide +kernel) fun t _ y => ?_
  blk_simp
  rw [after0_7]
  idx_vars y
  rw [emb7, Cert.Reference2Ideal.Out.res92, Cert.Reference2Ideal.Out.hl, Cert.Kernel2Ideal.Out.out7]
  simp only [Cert.Reference2Ideal.Out.xl, Cert.Kernel2Ideal.Out.out6, blk0, blk1 m c t y0, blk2, blk3, blk4, blk5]

end Cert.Kernel2Ideal.Blocks
-- ==== Proof.FfnClaim.lean ====
module

public import proofs.«01_k».proof.Defs
public import proofs.«01_k».proof.Proof.Gen.Kernel2.Frame
public import proofs.«01_k».proof.Proof.Gen.Reference2Ideal.Run
public import proofs.«01_k».proof.Proof.FfnBlocks
@[expose] public section
set_option maxRecDepth 16384

/-! The claims about the feed-forward half step. -/

noncomputable section
namespace Cert.Proof
open Idealize.ShloMosaic Idealize.SL.Sem

instance factsKernel2 : Cert.Kernel2.Facts := Cert.Kernel2.Gen.facts
instance factsKernel2Ideal : Cert.Kernel2Ideal.Facts := Cert.Kernel2Ideal.Gen.facts
instance factsReference2Ideal : Cert.Reference2Ideal.Facts := Cert.Reference2Ideal.Gen.facts

theorem frame_kernel2 : Cert.quiescent_Kernel2 := fun m g _ => Cert.Kernel2.Gen.frame m g
theorem frame_kernel2Ideal : Cert.quiescent_Kernel2Ideal := fun m g _ => Cert.Kernel2Ideal.Gen.frame m g
theorem frame_reference2Ideal : Cert.quiescent_Reference2Ideal := fun m g _ =>
  (θ_run Cert.Reference2Ideal.defs _ _).mono
    (fun r h => ⟨fun c => (h c).2.2, Idealize.ShloMosaic.sem_eq_zero_of_no_sems (by decide) r.2⟩)
    (Cert.Reference2Ideal.Value.run m g)

/-- The kernel's two results are the plain half step's. -/
theorem value2 : Cert.algebraic_Kernel2Ideal_Reference2Ideal := by
  pair_intro
  · run_from Cert.Kernel2Ideal.Gen.run_main m g
  · run_from Cert.Reference2Ideal.Value.run m' g'
    · rw [Cert.Kernel2Ideal.Blocks.final6]
      have h := Cert.Reference2Ideal.Read.val_main_v90_eq (F := Ideal) m' c
      simp only [hagree c] at h
      exact h
    · rw [Cert.Kernel2Ideal.Blocks.final7]
      have h := Cert.Reference2Ideal.Read.val_main_v92_eq (F := Ideal) m' c
      simp only [hagree c] at h
      exact h

end Cert.Proof
-- ==== Proof.MergeMath.lean ====
module

public import Idealize.ShloMosaic.Lib.Pointwise
public import Idealize.ShloMosaic.PureOps.Ideal.Laws
@[expose] public section
set_option maxRecDepth 16384

/-! The gated merge of the three branches for one token, as a function of that token's rows and of the weights. -/

noncomputable section
namespace Merge
open Idealize.ShloMosaic

/-- The gate of branch `b`, channel `j`. -/
def gate (h : Fin 1024 → EReal) (G : Fin 1024 → Fin 3072 → EReal) (b : Nat) (hb : b < 3) (j : Fin 1024) : EReal :=
  Ideal.logistic (∑ d : Fin 1024, h d * G d ⟨b * 1024 + j.val, by omega⟩)

/-- Branch `b` projected to the stream, channel `j`. -/
def branch (o : Fin 512 → EReal) (B : Fin 1536 → Fin 1024 → EReal) (b : Nat) (hb : b < 3) (j : Fin 1024) : EReal :=
  ∑ d : Fin 512, o d * B ⟨b * 512 + d.val, by omega⟩ j

/-- The sum of the gated branches, channel `j`. -/
def mixed (h : Fin 1024 → EReal) (oa ob oc : Fin 512 → EReal) (G : Fin 1024 → Fin 3072 → EReal)
    (B : Fin 1536 → Fin 1024 → EReal) (j : Fin 1024) : EReal :=
  gate h G 0 (by decide) j * branch oa B 0 (by decide) j + gate h G 1 (by decide) j * branch ob B 1 (by decide) j
    + gate h G 2 (by decide) j * branch oc B 2 (by decide) j

/-- The token's row after the merge. -/
def out (x h : Fin 1024 → EReal) (oa ob oc : Fin 512 → EReal) (a : EReal) (G : Fin 1024 → Fin 3072 → EReal)
    (B : Fin 1536 → Fin 1024 → EReal) (W : Fin 1024 → Fin 1024 → EReal) (l : Fin 1024) : EReal :=
  x l + a * ∑ j : Fin 1024, mixed h oa ob oc G B j * W j l

end Merge
-- ==== Proof.MergeOut.lean ====
module

public import proofs.«01_k».proof.Proof.Gen.Kernel3Ideal.Value
public import proofs.«01_k».proof.Proof.Gen.Reference3Ideal.Read
public import proofs.«01_k».proof.Proof.MergeMath
public import Idealize.ShloMosaic.Lib.Pipeline.ValueKit
@[expose] public section
set_option maxRecDepth 16384

/-! What the body of the merge kernel leaves in its output block, and what the plain merge computes, element by
    element. -/

noncomputable section

namespace Cert.Kernel3Ideal.Out
open Idealize.ShloMosaic Idealize.ShloMosaic.TcCoe Idealize.SL.Sem
open Cert.Kernel3Ideal Cert.Kernel3Ideal.Gen

/-- The output block, at a token and a channel. -/
theorem out9 (x0 : Vec Ideal S512x1024 .f32) (x1 : Vec Ideal S512x1024 .bf16) (x2 x3 x4 : Vec Ideal S512x512 .bf16)
    (x5 : Vec Ideal S1x1x9x1024 .f32) (x6 : Vec Ideal S1x1024x3072 .bf16) (x7 : Vec Ideal S1x1536x1024 .bf16)
    (x8 : Vec Ideal S1x1024x1024 .bf16) (r : Fin 512) (l : Fin 1024) :
    out0_9 x0 x1 x2 x3 x4 x5 x6 x7 x8 (ix2 r l) =
      Merge.out (fun d => x0 (ix2 r d)) (fun d => x1 (ix2 r d)) (fun d => x2 (ix2 r d)) (fun d => x3 (ix2 r d))
        (fun d => x4 (ix2 r d)) (x5 (ix4 0 0 5 l)) (fun d k => x6 (ix3 0 d k)) (fun d k => x7 (ix3 0 d k))
        (fun d k => x8 (ix3 0 d k)) l := by
  unfold Merge.out Merge.mixed Merge.gate Merge.branch out0_9
  frame_out
  pointwise [k0_pay1, k0_pay2, k0_pay3, k0_pay4, k0_pay5]

end Cert.Kernel3Ideal.Out

namespace Cert.Reference3Ideal.Out
open Idealize.ShloMosaic Idealize.ShloMosaic.TcCoe Idealize.SL.Sem
open Cert.Reference3Ideal Cert.Reference3Ideal.Gen Cert.Reference3Ideal.Read

variable (x0 x1 : (⟨S16x2048x1024, .f32⟩ : BufTy).Contents (Elt Ideal))
  (x2 x3 x4 : (⟨S16x2048x512, .f32⟩ : BufTy).Contents (Elt Ideal))
  (x5 : (⟨S4x24x9x1024, .f32⟩ : BufTy).Contents (Elt Ideal))
  (x6 : (⟨S4x1024x8464, .f32⟩ : BufTy).Contents (Elt Ideal))
  (x7 : (⟨S4x1536x1024, .f32⟩ : BufTy).Contents (Elt Ideal))
  (x8 : (⟨S4x1024x1024, .f32⟩ : BufTy).Contents (Elt Ideal))

/-- The result, at a token of the list of all batches and a channel. -/
theorem res34 (R : Fin 32768) (l : Fin 1024) :
    val_main_v34 x0 x1 x2 x3 x4 x5 x6 x7 x8 (ix2 R l) =
      Merge.out (fun d => x0 (ix3 ⟨R.val / 2048, by omega⟩ ⟨R.val % 2048, by omega⟩ d))
        (fun d => x1 (ix3 ⟨R.val / 2048, by omega⟩ ⟨R.val % 2048, by omega⟩ d))
        (fun d => x2 (ix3 ⟨R.val / 2048, by omega⟩ ⟨R.val % 2048, by omega⟩ d))
        (fun d => x3 (ix3 ⟨R.val / 2048, by omega⟩ ⟨R.val % 2048, by omega⟩ d))
        (fun d => x4 (ix3 ⟨R.val / 2048, by omega⟩ ⟨R.val % 2048, by omega⟩ d))
        (x5 (ix4 0 ⟨R.val / 2048, by omega⟩ 5 l)) (fun d k => x6 (ix3 0 d ⟨5392 + k.val, by omega⟩))
        (fun d k => x7 (ix3 0 d k)) (fun d k => x8 (ix3 0 d k)) l := by
  unfold Merge.out Merge.mixed Merge.gate Merge.branch Ideal.logistic
  pointwise [val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_cst_0, val_main_v13,
    val_main_v12, val_main_cst, val_main_v11, val_main_v10, val_main_v9, val_main_v8, val_main_v7, val_main_v6,
    val_main_v5, val_main_v4, val_main_v3, val_main_v2, val_main_v1, val_main_v0]

end Cert.Reference3Ideal.Out
-- ==== Proof.MergeBlocks.lean ====
module

public import proofs.«01_k».proof.Proof.MergeOut
public import Idealize.ShloMosaic.Lib.Claim
@[expose] public section
set_option maxRecDepth 16384

/-! The merge kernel's result array is the plain merge's. -/

noncomputable section
namespace Cert.Kernel3Ideal.Blocks
open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Which block of its array each window holds at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, t.val / 4, 0, 0] ∧ win0_6.index t = ![0, 0, 0] ∧ win0_7.index t = ![0, 0, 0]
    ∧ win0_8.index t = ![0, 0, 0] ∧ win0_9.index t = ![t.val, 0] :=
  (by decide +kernel : ∀ t : Fin grid0.N, _)

/-- Row `r` of the block of point `t`, in the array of all tokens. -/
abbrev row (t : Fin cfg0.N) (r : Fin 512) : Fin 32768 :=
  ⟨t.val * 512 + r.val, by have : t.val < 64 := t.isLt; omega⟩

theorem blk0 (c : Dev nD) (t : Fin cfg0.N) (r : Fin 512) (d : Fin 1024) : iblk m c 0 t (ix2 r d) =
    m ((c : Thread nD τ).loc main_arg0) (ix3 ⟨(row t r).val / 2048, by have := (row t r).isLt; omega⟩
      ⟨(row t r).val % 2048, by omega⟩ d) := by
  blk_simp [iblk]
  entry_read
  pointwise
  blk_point [idx t]

theorem blk1 (c : Dev nD) (t : Fin cfg0.N) (r : Fin 512) (d : Fin 1024) : iblk m c 1 t (ix2 r d) =
    m ((c : Thread nD τ).loc main_arg1) (ix3 ⟨(row t r).val / 2048, by have := (row t r).isLt; omega⟩
      ⟨(row t r).val % 2048, by omega⟩ d) := by
  blk_simp [iblk]
  entry_read
  pointwise
  blk_point [idx t]

theorem blk2 (c : Dev nD) (t : Fin cfg0.N) (r : Fin 512) (d : Fin 512) : iblk m c 2 t (ix2 r d) =
    m ((c : Thread nD τ).loc main_arg2) (ix3 ⟨(row t r).val / 2048, by have := (row t r).isLt; omega⟩
      ⟨(row t r).val % 2048, by omega⟩ d) := by
  blk_simp [iblk]
  entry_read
  pointwise
  blk_point [idx t]

theorem blk3 (c : Dev nD) (t : Fin cfg0.N) (r : Fin 512) (d : Fin 512) : iblk m c 3 t (ix2 r d) =
    m ((c : Thread nD τ).loc main_arg3) (ix3 ⟨(row t r).val / 2048, by have := (row t r).isLt; omega⟩
      ⟨(row t r).val % 2048, by omega⟩ d) := by
  blk_simp [iblk]
  entry_read
  pointwise
  blk_point [idx t]

theorem blk4 (c : Dev nD) (t : Fin cfg0.N) (r : Fin 512) (d : Fin 512) : iblk m c 4 t (ix2 r d) =
    m ((c : Thread nD τ).loc main_arg4) (ix3 ⟨(row t r).val / 2048, by have := (row t r).isLt; omega⟩
      ⟨(row t r).val % 2048, by omega⟩ d) := by
  blk_simp [iblk]
  entry_read
  pointwise
  blk_point [idx t]

theorem blk5 (c : Dev nD) (t : Fin cfg0.N) (r : Fin 512) (k : Fin 9) (d : Fin 1024) : iblk m c 5 t (ix4 0 0 k d) =
    m ((c : Thread nD τ).loc main_arg5) (ix4 0 ⟨(row t r).val / 2048, by have := (row t r).isLt; omega⟩ k d) := by
  blk_point [iblk, V, idx t]

theorem blk6 (c : Dev nD) (t : Fin cfg0.N) (d : Fin 1024) (k : Fin 3072) : iblk m c 6 t (ix3 0 d k) =
    m ((c : Thread nD τ).loc main_arg6) (ix3 0 d ⟨5392 + k.val, by omega⟩) := by
  blk_simp [iblk]
  entry_read
  pointwise
  blk_point [idx t]

theorem blk7 (c : Dev nD) (t : Fin cfg0.N) (d : Fin 1536) (k : Fin 1024) : iblk m c 7 t (ix3 0 d k) =
    m ((c : Thread nD τ).loc main_arg7) (ix3 0 d k) := by
  blk_simp [iblk]
  entry_read
  pointwise
  blk_point [idx t]

theorem blk8 (c : Dev nD) (t : Fin cfg0.N) (d : Fin 1024) (k : Fin 1024) : iblk m c 8 t (ix3 0 d k) =
    m ((c : Thread nD τ).loc main_arg8) (ix3 0 d k) := by
  blk_simp [iblk]
  entry_read
  pointwise
  blk_point [idx t]

theorem emb9 (t : Fin cfg0.N) (r : Fin 512) (l : Fin 1024) :
    ((View.whole main_v13).slice (win0_9.rect t)).emb (ix2 r l) = ix2 (row t r) l := by
  blk_ext [idx t]

/-- The result array. -/
theorem final9 (c : Dev nD) : (dats m 0 c).arrAt 9 (cfgs 0).N =
    Cert.Reference3Ideal.Read.val_main_v34 (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) := by
  refine (dats m 0 c).arrAt_eq_of_covers 9 _ (by decide +kernel) fun t _ y => ?_
  blk_simp
  rw [after0_9]
  idx_vars y
  rw [emb9, Cert.Reference3Ideal.Out.res34, Cert.Kernel3Ideal.Out.out9]
  simp only [blk0, blk1, blk2, blk3, blk4, blk5 m c t y0, blk6, blk7, blk8]

end Cert.Kernel3Ideal.Blocks
-- ==== Proof.MergeClaim.lean ====
module

public import proofs.«01_k».proof.Defs
public import proofs.«01_k».proof.Proof.Gen.Kernel3.Frame
public import proofs.«01_k».proof.Proof.Gen.Reference3Ideal.Run
public import proofs.«01_k».proof.Proof.MergeBlocks
@[expose] public section
set_option maxRecDepth 16384

/-! The claims about the merge of the branches. -/

noncomputable section
namespace Cert.Proof
open Idealize.ShloMosaic Idealize.SL.Sem

instance factsKernel3 : Cert.Kernel3.Facts := Cert.Kernel3.Gen.facts
instance factsKernel3Ideal : Cert.Kernel3Ideal.Facts := Cert.Kernel3Ideal.Gen.facts
instance factsReference3Ideal : Cert.Reference3Ideal.Facts := Cert.Reference3Ideal.Gen.facts

theorem frame_kernel3 : Cert.quiescent_Kernel3 := fun m g _ => Cert.Kernel3.Gen.frame m g
theorem frame_kernel3Ideal : Cert.quiescent_Kernel3Ideal := fun m g _ => Cert.Kernel3Ideal.Gen.frame m g
theorem frame_reference3Ideal : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run m g)

/-- The kernel's result is the plain merge's. -/
theorem value3 : Cert.algebraic_Kernel3Ideal_Reference3Ideal := by
  pair_intro
  · run_from Cert.Kernel3Ideal.Gen.run_main m g
  · run_from Cert.Reference3Ideal.Value.run m' g'
    rw [Cert.Kernel3Ideal.Blocks.final9]
    exact Cert.Reference3Ideal.Read.val_main_v34_eq (F := Ideal) _ _ _ _ _ _ _ _ _

end Cert.Proof
-- ==== Proof.LastOut.lean ====
module

public import proofs.«01_k».proof.Proof.Gen.Kernel4Ideal.Frame
public import proofs.«01_k».proof.Proof.FfnMath
public import Idealize.ShloMosaic.Lib.Pipeline.ValueKit
@[expose] public section
set_option maxRecDepth 16384

/-! What the body of the second feed-forward call leaves in its output block, element by element. -/

noncomputable section
namespace Cert.Kernel4Ideal.Out
open Idealize.ShloMosaic Idealize.ShloMosaic.TcCoe Idealize.SL.Sem
open Cert.Kernel4Ideal Cert.Kernel4Ideal.Gen

/-- The normalised and modulated block, at a token and a channel. -/
theorem hs (x : Vec Ideal S1024x1024 .f32) (g sc sh : Vec Ideal S1x1x1x1024 .f32) (r d : Fin 1024) :
    k0_pay3 x g sc sh (ix2 r d) =
      Ffn.modNorm (fun k => x (ix2 r k)) (fun k => g (ix4 0 0 0 k)) (fun k => sc (ix4 0 0 0 k))
        (fun k => sh (ix4 0 0 0 k)) d := by
  unfold Ffn.modNorm
  pointwise [k0_pay3, k0_pay2]

/-- The output block, at a token and a channel. -/
theorem out5 (x0 : Vec Ideal S1024x1024 .f32) (x1 : Vec Ideal S1x1x9x1024 .f32)
    (x2 : Vec Ideal S1x1x1x1024 .f32) (x3 : Vec Ideal S1x1x1024x5632 .bf16)
    (x4 : Vec Ideal S1x1x2816x1024 .bf16) (r l : Fin 1024) :
    out0_5 x0 x1 x2 x3 x4 (ix2 r l) =
      Ffn.step (fun d => x0 (ix2 r d)) (fun s => Ideal.ofBits .f32 0x3F000000#32 * x1 (ix4 0 0 8 l) * s)
        (Ffn.modNorm (fun k => x0 (ix2 r k)) (fun k => x2 (ix4 0 0 0 k)) (fun k => x1 (ix4 0 0 7 k))
        (fun k => x1 (ix4 0 0 6 k))) (fun d k => x3 (ix4 0 0 d k)) (fun k l => x4 (ix4 0 0 k l)) l := by
  unfold Ffn.step
  rw [Ffn.sum_tiles]
  unfold_out out0_5
  frame_out
  have hh : ∀ d, k0_pay3 x0 x2 (View.ld x1 r0_2) (View.ld x1 r0_3) (ix2 r d) =
      Ffn.modNorm (fun k => x0 (ix2 r k)) (fun k => x2 (ix4 0 0 0 k)) (fun k => x1 (ix4 0 0 7 k))
        (fun k => x1 (ix4 0 0 6 k)) d := fun d => by
    rw [hs]
    pointwise
  generalize Ffn.modNorm (fun k => x0 (ix2 r k)) (fun k => x2 (ix4 0 0 0 k)) (fun k => x1 (ix4 0 0 7 k))
        (fun k => x1 (ix4 0 0 6 k)) = n at hh ⊢
  unfold k0_pay4
  generalize k0_pay3 x0 x2 (View.ld x1 r0_2) (View.ld x1 r0_3) = H at hh ⊢
  obtain rfl : (fun d => H (ix2 r d)) = n := funext hh
  clear hh
  unfold Ffn.act Ffn.gate Ffn.up
  pointwise [k0_pay1, k0_pay2, k0_pay5, k0_pay6, k0_pay7, k0_pay8, k0_pay9, k0_pay10, k0_pay11, k0_pay12, k0_pay13,
    k0_pay14, k0_pay15, k0_pay16, k0_pay17]
  simp only [← Nat.add_assoc, Nat.reduceAdd]

end Cert.Kernel4Ideal.Out
-- ==== Proof.LastRef.lean ====
module

public import proofs.«01_k».proof.Proof.Gen.Reference4Ideal.Read
public import proofs.«01_k».proof.Proof.FfnMath
@[expose] public section
set_option maxRecDepth 16384

/-! What the plain second half step computes, element by element. -/

noncomputable section
namespace Cert.Reference4Ideal.Out
open Idealize.ShloMosaic Idealize.ShloMosaic.TcCoe Idealize.SL.Sem
open Cert.Reference4Ideal Cert.Reference4Ideal.Gen Cert.Reference4Ideal.Read

variable (x0 : (⟨S16x2048x1024, .f32⟩ : BufTy).Contents (Elt Ideal))
  (x1 : (⟨S4x24x9x1024, .f32⟩ : BufTy).Contents (Elt Ideal))
  (x2 : (⟨S4x3x1024, .f32⟩ : BufTy).Contents (Elt Ideal))
  (x3 : (⟨S4x2x1024x5632, .f32⟩ : BufTy).Contents (Elt Ideal))
  (x4 : (⟨S4x2x2816x1024, .f32⟩ : BufTy).Contents (Elt Ideal))

/-- The normalised and modulated stream, at a token and a channel. -/
theorem hs (b : Fin 16) (t : Fin 2048) (d : Fin 1024) :
    val_main_v53 x0 x1 x2 (ix3 b t d) =
      Ffn.modNorm (fun k => x0 (ix3 b t k)) (fun k => x2 (ix3 3 2 k))
        (fun k => x1 (ix4 3 ⟨b.val, by omega⟩ 7 k)) (fun k => x1 (ix4 3 ⟨b.val, by omega⟩ 6 k)) d := by
  unfold Ffn.modNorm
  pointwise [val_main_v53, val_main_v52, val_main_v51, val_main_v50, val_main_v49, val_main_v48, val_main_cst_2,
    val_main_v47, val_main_v46, val_main_v45, val_main_v44, val_main_v43, val_main_v42, val_main_v41, val_main_v40,
    val_main_cst_1, val_main_v39, val_main_v38, val_main_cst_0, val_main_v37, val_main_v36, val_main_cst,
    val_main_v35, val_main_v34, val_main_v33, val_main_v28, val_main_v27, val_main_v23, val_main_v22, val_main_v21,
    val_main_v20, val_main_v19, val_main_v18]

/-- The gated hidden layer. -/
theorem act (b : Fin 16) (t : Fin 2048) (k : Fin 2816) :
    val_main_v64 x0 x1 x2 x3 (ix3 b t k) =
      Ffn.act (fun d => val_main_v53 x0 x1 x2 (ix3 b t d)) (fun d k => x3 (ix4 3 1 d k)) k := by
  unfold Ffn.act Ffn.gate Ffn.up Ideal.logistic
  pointwise [val_main_v64, val_main_v63, val_main_call0_v5, val_main_call0_v4, val_main_call0_cst_0,
    val_main_call0_v3, val_main_call0_v2, val_main_call0_cst, val_main_call0_v1, val_main_call0_v0,
    val_main_v62, val_main_v61, val_main_v60, val_main_v57, val_main_v56, val_main_v30, val_main_v29]

/-- The stream after the half step. -/
theorem xl (b : Fin 16) (t : Fin 2048) (l : Fin 1024) :
    val_main_v68 x0 x1 x2 x3 x4 (ix3 b t l) =
      Ffn.step (fun d => x0 (ix3 b t d))
        (fun s => Ideal.ofBits .f32 0x3F000000#32 * x1 (ix4 3 ⟨b.val, by omega⟩ 8 l) * s)
        (Ffn.modNorm (fun k => x0 (ix3 b t k)) (fun k => x2 (ix3 3 2 k))
        (fun k => x1 (ix4 3 ⟨b.val, by omega⟩ 7 k)) (fun k => x1 (ix4 3 ⟨b.val, by omega⟩ 6 k)))
        (fun d k => x3 (ix4 3 1 d k)) (fun k l => x4 (ix4 3 1 k l)) l := by
  unfold Ffn.step
  have hn := funext (hs x0 x1 x2 b t)
  rw [← hn]
  simp only [← act]
  pointwise [val_main_v68, val_main_v67, val_main_v66, val_main_v55, val_main_v54, val_main_cst_3,
    val_main_v65, val_main_v59, val_main_v58, val_main_v32, val_main_v31, val_main_v26, val_main_v25, val_main_v24]

/-- The result lists the tokens of all the batches one after another. -/
theorem res69 (R : Fin 32768) (l : Fin 1024) :
    val_main_v69 x0 x1 x2 x3 x4 (ix2 R l) =
      val_main_v68 x0 x1 x2 x3 x4 (ix3 ⟨R.val / 2048, by omega⟩ ⟨R.val % 2048, by omega⟩ l) := by
  pointwise [val_main_v69]

end Cert.Reference4Ideal.Out
-- ==== Proof.LastBlocks.lean ====
module

public import proofs.«01_k».proof.Proof.LastOut
public import proofs.«01_k».proof.Proof.LastRef
public import Idealize.ShloMosaic.Lib.Claim
@[expose] public section
set_option maxRecDepth 16384

/-! The second feed-forward call's result array is the plain half step's. -/

noncomputable section
namespace Cert.Kernel4Ideal.Blocks
open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Which block of its array each window holds at a grid point. -/
theorem idx : ∀ t : Fin cfg0.N, win0_0.index t = ![t.val, 0] ∧ win0_1.index t = ![3, t.val / 2, 0, 0]
    ∧ win0_2.index t = ![3, 2, 0, 0] ∧ win0_3.index t = ![3, 1, 0, 0] ∧ win0_4.index t = ![3, 1, 0, 0]
    ∧ win0_5.index t = ![t.val, 0] :=
  (by decide +kernel : ∀ t : Fin grid0.N, _)

/-- Row `r` of the block of point `t`, in the array of all tokens. -/
abbrev row (t : Fin cfg0.N) (r : Fin 1024) : Fin 32768 :=
  ⟨t.val * 1024 + r.val, by have : t.val < 32 := t.isLt; omega⟩

theorem blk0 (c : Dev nD) (t : Fin cfg0.N) (r d : Fin 1024) : iblk m c 0 t (ix2 r d) =
    m ((c : Thread nD τ).loc main_arg0) (ix3 ⟨(row t r).val / 2048, by have := (row t r).isLt; omega⟩
      ⟨(row t r).val % 2048, by omega⟩ d) := by
  blk_simp [iblk]
  entry_read
  pointwise
  blk_point [idx t]

theorem blk1 (c : Dev nD) (t : Fin cfg0.N) (r : Fin 1024) (k : Fin 9) (d : Fin 1024) : iblk m c 1 t (ix4 0 0 k d) =
    m ((c : Thread nD τ).loc main_arg1) (ix4 3 ⟨(row t r).val / 2048, by have := (row t r).isLt; omega⟩ k d) := by
  blk_point [iblk, V, idx t]

theorem blk2 (c : Dev nD) (t : Fin cfg0.N) (d : Fin 1024) : iblk m c 2 t (ix4 0 0 0 d) =
    m ((c : Thread nD τ).loc main_arg2) (ix3 3 2 d) := by
  blk_simp [iblk]
  entry_read
  pointwise
  blk_point [idx t]

theorem blk3 (c : Dev nD) (t : Fin cfg0.N) (d : Fin 1024) (k : Fin 5632) : iblk m c 3 t (ix4 0 0 d k) =
    m ((c : Thread nD τ).loc main_arg3) (ix4 3 1 d k) := by
  blk_simp [iblk]
  entry_read
  pointwise
  blk_point [idx t]

theorem blk4 (c : Dev nD) (t : Fin cfg0.N) (k : Fin 2816) (d : Fin 1024) : iblk m c 4 t (ix4 0 0 k d) =
    m ((c : Thread nD τ).loc main_arg4) (ix4 3 1 k d) := by
  blk_simp [iblk]
  entry_read
  pointwise
  blk_point [idx t]

theorem emb5 (t : Fin cfg0.N) (r l : Fin 1024) :
    ((View.whole main_v4).slice (win0_5.rect t)).emb (ix2 r l) = ix2 (row t r) l := by
  blk_ext [idx t]

/-- The result array. -/
theorem final5 (c : Dev nD) : (dats m 0 c).arrAt 5 (cfgs 0).N =
    Cert.Reference4Ideal.Read.val_main_v69 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  idx_vars y
  rw [emb5, Cert.Reference4Ideal.Out.res69, Cert.Reference4Ideal.Out.xl, Cert.Kernel4Ideal.Out.out5]
  simp only [blk0, blk1 m c t y0, blk2, blk3, blk4]

end Cert.Kernel4Ideal.Blocks
-- ==== Proof.LastClaim.lean ====
module

public import proofs.«01_k».proof.Defs
public import proofs.«01_k».proof.Proof.Gen.Kernel4.Frame
public import proofs.«01_k».proof.Proof.Gen.Reference4Ideal.Run
public import proofs.«01_k».proof.Proof.LastBlocks
@[expose] public section
set_option maxRecDepth 16384

/-! The claims about the last layer's second feed-forward half step. -/

noncomputable section
namespace Cert.Proof
open Idealize.ShloMosaic Idealize.SL.Sem

instance factsKernel4 : Cert.Kernel4.Facts := Cert.Kernel4.Gen.facts
instance factsKernel4Ideal : Cert.Kernel4Ideal.Facts := Cert.Kernel4Ideal.Gen.facts
instance factsReference4Ideal : Cert.Reference4Ideal.Facts := Cert.Reference4Ideal.Gen.facts

theorem frame_kernel4 : Cert.quiescent_Kernel4 := fun m g _ => Cert.Kernel4.Gen.frame m g
theorem frame_kernel4Ideal : Cert.quiescent_Kernel4Ideal := fun m g _ => Cert.Kernel4Ideal.Gen.frame m g
theorem frame_reference4Ideal : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run m g)

/-- The kernel's result is the plain half step's. -/
theorem value4 : Cert.algebraic_Kernel4Ideal_Reference4Ideal := by
  pair_intro
  · run_from Cert.Kernel4Ideal.Gen.run_main m g
  · run_from Cert.Reference4Ideal.Value.run m' g'
    rw [Cert.Kernel4Ideal.Blocks.final5]
    have h := Cert.Reference4Ideal.Read.val_main_v69_eq (F := Ideal) m' c
    simp only [hagree c] at h
    exact h

end Cert.Proof
-- ==== Proof.CtxFfnOut.lean ====
module

public import proofs.«01_k».proof.Proof.Gen.Kernel5Ideal.Frame
public import proofs.«01_k».proof.Proof.FfnMath
public import Idealize.ShloMosaic.Lib.Pipeline.ValueKit
@[expose] public section
set_option maxRecDepth 16384

/-! On the context stream. What the body of the feed-forward kernel leaves in its two output blocks, element by element. -/

noncomputable section
namespace Cert.Kernel5Ideal.Out
open Idealize.ShloMosaic Idealize.ShloMosaic.TcCoe Idealize.SL.Sem
open Cert.Kernel5Ideal Cert.Kernel5Ideal.Gen

/-- The normalised and modulated block, at a token and a channel. -/
theorem hs (x : Vec Ideal S1024x1024 .f32) (g sc sh : Vec Ideal S1x1x1x1024 .f32) (r d : Fin 1024) :
    k0_pay3 x g sc sh (ix2 r d) =
      Ffn.modNorm (fun k => x (ix2 r k)) (fun k => g (ix4 0 0 0 k)) (fun k => sc (ix4 0 0 0 k))
        (fun k => sh (ix4 0 0 0 k)) d := by
  unfold Ffn.modNorm
  pointwise [k0_pay3, k0_pay2]

/-- The first output block, at a token and a channel. -/
theorem out6 (x0 : Vec Ideal S1024x1024 .f32) (x1 : Vec Ideal S1x1x9x1024 .f32)
    (x2 : Vec Ideal S1x1x1x1024 .f32) (x3 : Vec Ideal S1x1x1024x5632 .bf16)
    (x4 : Vec Ideal S1x1x2816x1024 .bf16) (x5 : Vec Ideal S1x1x1x1024 .f32) (r l : Fin 1024) :
    out0_6 x0 x1 x2 x3 x4 x5 (ix2 r l) =
      Ffn.step (fun d => x0 (ix2 r d)) (fun s => Ideal.ofBits .f32 0x3F000000#32 * x1 (ix4 0 0 2 l) * s)
        (Ffn.modNorm (fun k => x0 (ix2 r k)) (fun k => x2 (ix4 0 0 0 k)) (fun k => x1 (ix4 0 0 1 k))
        (fun k => x1 (ix4 0 0 0 k))) (fun d k => x3 (ix4 0 0 d k)) (fun k l => x4 (ix4 0 0 k l)) l := by
  unfold Ffn.step
  rw [Ffn.sum_tiles]
  unfold_out out0_6
  frame_out
  have hh : ∀ d, k0_pay3 x0 x2 (View.ld x1 r0_2) (View.ld x1 r0_3) (ix2 r d) =
      Ffn.modNorm (fun k => x0 (ix2 r k)) (fun k => x2 (ix4 0 0 0 k)) (fun k => x1 (ix4 0 0 1 k))
        (fun k => x1 (ix4 0 0 0 k)) d := fun d => by
    rw [hs]
    pointwise
  generalize Ffn.modNorm (fun k => x0 (ix2 r k)) (fun k => x2 (ix4 0 0 0 k)) (fun k => x1 (ix4 0 0 1 k))
        (fun k => x1 (ix4 0 0 0 k)) = n at hh ⊢
  unfold k0_pay4
  generalize k0_pay3 x0 x2 (View.ld x1 r0_2) (View.ld x1 r0_3) = H at hh ⊢
  obtain rfl : (fun d => H (ix2 r d)) = n := funext hh
  clear hh
  unfold Ffn.act Ffn.gate Ffn.up
  pointwise [k0_pay2, k0_pay5, k0_pay6, k0_pay7, k0_pay8, k0_pay9, k0_pay10, k0_pay11, k0_pay12, k0_pay13,
    k0_pay14, k0_pay15, k0_pay16, k0_pay17, k0_pay18]
  simp only [← Nat.add_assoc, Nat.reduceAdd]

/-- The second output block: the first one's row, normalised and modulated. -/
theorem out7 (x0 : Vec Ideal S1024x1024 .f32) (x1 : Vec Ideal S1x1x9x1024 .f32)
    (x2 : Vec Ideal S1x1x1x1024 .f32) (x3 : Vec Ideal S1x1x1024x5632 .bf16)
    (x4 : Vec Ideal S1x1x2816x1024 .bf16) (x5 : Vec Ideal S1x1x1x1024 .f32) (r l : Fin 1024) :
    out0_7 x0 x1 x2 x3 x4 x5 (ix2 r l) =
      Ffn.modNorm (fun d => out0_6 x0 x1 x2 x3 x4 x5 (ix2 r d)) (fun k => x5 (ix4 0 0 0 k))
        (fun k => x1 (ix4 0 0 4 k)) (fun k => x1 (ix4 0 0 3 k)) l := by
  unfold Ffn.modNorm out0_7 out0_6
  frame_out
  pointwise [k0_pay1, k0_pay19]

end Cert.Kernel5Ideal.Out
-- ==== Proof.CtxFfnRef.lean ====
module

public import proofs.«01_k».proof.Proof.Gen.Reference5Ideal.Read
public import proofs.«01_k».proof.Proof.FfnMath
@[expose] public section
set_option maxRecDepth 16384

/-! On the context stream. What the plain feed-forward half step computes, element by element. -/

noncomputable section
namespace Cert.Reference5Ideal.Out
open Idealize.ShloMosaic Idealize.ShloMosaic.TcCoe Idealize.SL.Sem
open Cert.Reference5Ideal Cert.Reference5Ideal.Gen Cert.Reference5Ideal.Read

variable (x0 : (⟨S16x256x1024, .f32⟩ : BufTy).Contents (Elt Ideal))
  (x1 : (⟨S4x24x9x1024, .f32⟩ : BufTy).Contents (Elt Ideal))
  (x2 : (⟨S4x3x1024, .f32⟩ : BufTy).Contents (Elt Ideal))
  (x3 : (⟨S4x2x1024x5632, .f32⟩ : BufTy).Contents (Elt Ideal))
  (x4 : (⟨S4x2x2816x1024, .f32⟩ : BufTy).Contents (Elt Ideal))

/-- The normalised and modulated stream, at a token and a channel. -/
theorem hs (b : Fin 16) (t : Fin 256) (d : Fin 1024) :
    val_main_v46 x0 x1 x2 (ix3 b t d) =
      Ffn.modNorm (fun k => x0 (ix3 b t k)) (fun k => x2 (ix3 0 0 k))
        (fun k => x1 (ix4 0 16 1 k)) (fun k => x1 (ix4 0 16 0 k)) d := by
  unfold Ffn.modNorm
  pointwise [val_main_v46, val_main_v45, val_main_v44, val_main_v43, val_main_v42, val_main_v41, val_main_v40,
    val_main_v39, val_main_v38, val_main_v37, val_main_v36, val_main_v35, val_main_v34, val_main_v33,
    val_main_v32, val_main_v31, val_main_v30, val_main_v29, val_main_v28, val_main_v27, val_main_v26,
    val_main_v25, val_main_v24, val_main_cst_2, val_main_cst_1, val_main_cst_0, val_main_cst, val_main_v19,
    val_main_v18, val_main_v3, val_main_v2, val_main_v1, val_main_v0]

/-- The gated hidden layer. -/
theorem act (b : Fin 16) (t : Fin 256) (k : Fin 2816) :
    val_main_v57 x0 x1 x2 x3 (ix3 b t k) =
      Ffn.act (fun d => val_main_v46 x0 x1 x2 (ix3 b t d)) (fun d k => x3 (ix4 0 0 d k)) k := by
  unfold Ffn.act Ffn.gate Ffn.up Ideal.logistic
  pointwise [val_main_v57, val_main_v56, val_main_call0_v5, val_main_call0_v4, val_main_call0_cst_0,
    val_main_call0_v3, val_main_call0_v2, val_main_call0_cst, val_main_call0_v1, val_main_call0_v0, val_main_v55,
    val_main_v54, val_main_v53, val_main_v50, val_main_v49, val_main_v21, val_main_v20]

/-- The stream after the half step. -/
theorem xl (b : Fin 16) (t : Fin 256) (l : Fin 1024) :
    val_main_v62 x0 x1 x2 x3 x4 (ix3 b t l) =
      Ffn.step (fun d => x0 (ix3 b t d))
        (fun s => Ideal.ofBits .f32 0x3F000000#32 * x1 (ix4 0 16 2 l) * s)
        (Ffn.modNorm (fun k => x0 (ix3 b t k)) (fun k => x2 (ix3 0 0 k))
        (fun k => x1 (ix4 0 16 1 k)) (fun k => x1 (ix4 0 16 0 k)))
        (fun d k => x3 (ix4 0 0 d k)) (fun k l => x4 (ix4 0 0 k l)) l := by
  unfold Ffn.step
  have hn := funext (hs x0 x1 x2 b t)
  rw [← hn]
  simp only [← act]
  pointwise [val_main_v62, val_main_v61, val_main_v60, val_main_v59, val_main_v58, val_main_v48, val_main_v47,
    val_main_cst_3, val_main_v52, val_main_v51, val_main_v23, val_main_v22, val_main_v5, val_main_v4]

/-- The next block's input: the stream after the half step, normalised and modulated. -/
theorem hl (b : Fin 16) (t : Fin 256) (l : Fin 1024) :
    val_main_v85 x0 x1 x2 x3 x4 (ix3 b t l) =
      Ffn.modNorm (fun d => val_main_v62 x0 x1 x2 x3 x4 (ix3 b t d)) (fun k => x2 (ix3 0 1 k))
        (fun k => x1 (ix4 0 16 4 k)) (fun k => x1 (ix4 0 16 3 k)) l := by
  unfold Ffn.modNorm
  pointwise [val_main_v85, val_main_v84, val_main_v83, val_main_v82, val_main_v81, val_main_v80, val_main_v79,
    val_main_v78, val_main_v77, val_main_v76, val_main_v75, val_main_v74, val_main_v73, val_main_v72,
    val_main_v71, val_main_v70, val_main_v69, val_main_v68, val_main_v67, val_main_v66, val_main_v65,
    val_main_v64, val_main_v63, val_main_cst_7, val_main_cst_6, val_main_cst_5, val_main_cst_4, val_main_v19,
    val_main_v18, val_main_v9, val_main_v8, val_main_v7, val_main_v6]

/-- The first result lists the tokens of all the batches one after another. -/
theorem res86 (R : Fin 4096) (l : Fin 1024) :
    val_main_v86 x0 x1 x2 x3 x4 (ix2 R l) =
      val_main_v62 x0 x1 x2 x3 x4 (ix3 ⟨R.val / 256, by omega⟩ ⟨R.val % 256, by omega⟩ l) := by
  pointwise [val_main_v86]

/-- So does the second. -/
theorem res88 (R : Fin 4096) (l : Fin 1024) :
    val_main_v88 x0 x1 x2 x3 x4 (ix2 R l) =
      val_main_v85 x0 x1 x2 x3 x4 (ix3 ⟨R.val / 256, by omega⟩ ⟨R.val % 256, by omega⟩ l) := by
  pointwise [val_main_v88, val_main_v87]

end Cert.Reference5Ideal.Out
-- ==== Proof.CtxFfnBlocks.lean ====
module

public import proofs.«01_k».proof.Proof.CtxFfnOut
public import proofs.«01_k».proof.Proof.CtxFfnRef
public import Idealize.ShloMosaic.Lib.Claim
@[expose] public section
set_option maxRecDepth 16384

/-! On the context stream. The feed-forward kernel's two result arrays are the plain half step's. -/

noncomputable section
namespace Cert.Kernel5Ideal.Blocks
open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- Which block of its array each window holds at a grid point. -/
theorem idx : ∀ t : Fin cfg0.N, win0_0.index t = ![t.val, 0] ∧ win0_1.index t = ![0, 16, 0, 0]
    ∧ win0_2.index t = ![0, 0, 0, 0] ∧ win0_3.index t = ![0, 0, 0, 0] ∧ win0_4.index t = ![0, 0, 0, 0]
    ∧ win0_5.index t = ![0, 1, 0, 0] ∧ win0_6.index t = ![t.val, 0] ∧ win0_7.index t = ![t.val, 0] :=
  (by decide +kernel : ∀ t : Fin grid0.N, _)

/-- Row `r` of the block of point `t`, in the array of all tokens. -/
abbrev row (t : Fin cfg0.N) (r : Fin 1024) : Fin 4096 :=
  ⟨t.val * 1024 + r.val, by have : t.val < 4 := t.isLt; omega⟩

theorem blk0 (c : Dev nD) (t : Fin cfg0.N) (r d : Fin 1024) : iblk m c 0 t (ix2 r d) =
    m ((c : Thread nD τ).loc main_arg0) (ix3 ⟨(row t r).val / 256, by have := (row t r).isLt; omega⟩
      ⟨(row t r).val % 256, by omega⟩ d) := by
  blk_simp [iblk]
  entry_read
  pointwise
  blk_point [idx t]

theorem blk1 (c : Dev nD) (t : Fin cfg0.N) (k : Fin 9) (d : Fin 1024) : iblk m c 1 t (ix4 0 0 k d) =
    m ((c : Thread nD τ).loc main_arg1) (ix4 0 16 k d) := by
  blk_point [iblk, V, idx t]

theorem blk2 (c : Dev nD) (t : Fin cfg0.N) (d : Fin 1024) : iblk m c 2 t (ix4 0 0 0 d) =
    m ((c : Thread nD τ).loc main_arg2) (ix3 0 0 d) := by
  blk_simp [iblk]
  entry_read
  pointwise
  blk_point [idx t]

theorem blk3 (c : Dev nD) (t : Fin cfg0.N) (d : Fin 1024) (k : Fin 5632) : iblk m c 3 t (ix4 0 0 d k) =
    m ((c : Thread nD τ).loc main_arg3) (ix4 0 0 d k) := by
  blk_simp [iblk]
  entry_read
  pointwise
  blk_point [idx t]

theorem blk4 (c : Dev nD) (t : Fin cfg0.N) (k : Fin 2816) (d : Fin 1024) : iblk m c 4 t (ix4 0 0 k d) =
    m ((c : Thread nD τ).loc main_arg4) (ix4 0 0 k d) := by
  blk_simp [iblk]
  entry_read
  pointwise
  blk_point [idx t]

theorem blk5 (c : Dev nD) (t : Fin cfg0.N) (d : Fin 1024) : iblk m c 5 t (ix4 0 0 0 d) =
    m ((c : Thread nD τ).loc main_arg2) (ix3 0 1 d) := by
  blk_simp [iblk]
  entry_read
  pointwise
  blk_point [idx t]

theorem emb6 (t : Fin cfg0.N) (r l : Fin 1024) :
    ((View.whole main_v4_0).slice (win0_6.rect t)).emb (ix2 r l) = ix2 (row t r) l := by
  blk_ext [idx t]

theorem emb7 (t : Fin cfg0.N) (r l : Fin 1024) :
    ((View.whole main_v4_1).slice (win0_7.rect t)).emb (ix2 r l) = ix2 (row t r) l := by
  blk_ext [idx t]

/-- The first result array. -/
theorem final6 (c : Dev nD) : (dats m 0 c).arrAt 6 (cfgs 0).N =
    Cert.Reference5Ideal.Read.val_main_v86 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 6 _ (by decide +kernel) fun t _ y => ?_
  blk_simp
  rw [after0_6]
  idx_vars y
  rw [emb6, Cert.Reference5Ideal.Out.res86, Cert.Reference5Ideal.Out.xl, Cert.Kernel5Ideal.Out.out6]
  simp only [blk0, blk1, blk2, blk3, blk4]

/-- The second result array. -/
theorem final7 (c : Dev nD) : (dats m 0 c).arrAt 7 (cfgs 0).N =
    Cert.Reference5Ideal.Read.val_main_v88 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 7 _ (by decide +kernel) fun t _ y => ?_
  blk_simp
  rw [after0_7]
  idx_vars y
  rw [emb7, Cert.Reference5Ideal.Out.res88, Cert.Reference5Ideal.Out.hl, Cert.Kernel5Ideal.Out.out7]
  simp only [Cert.Reference5Ideal.Out.xl, Cert.Kernel5Ideal.Out.out6, blk0, blk1, blk2, blk3, blk4, blk5]

end Cert.Kernel5Ideal.Blocks
-- ==== Proof.CtxFfnClaim.lean ====
module

public import proofs.«01_k».proof.Defs
public import proofs.«01_k».proof.Proof.Gen.Kernel5.Frame
public import proofs.«01_k».proof.Proof.Gen.Reference5Ideal.Run
public import proofs.«01_k».proof.Proof.CtxFfnBlocks
@[expose] public section
set_option maxRecDepth 16384

/-! The claims, on the context stream, about the feed-forward half step. -/

noncomputable section
namespace Cert.Proof
open Idealize.ShloMosaic Idealize.SL.Sem

instance factsKernel5 : Cert.Kernel5.Facts := Cert.Kernel5.Gen.facts
instance factsKernel5Ideal : Cert.Kernel5Ideal.Facts := Cert.Kernel5Ideal.Gen.facts
instance factsReference5Ideal : Cert.Reference5Ideal.Facts := Cert.Reference5Ideal.Gen.facts

theorem frame_kernel5 : Cert.quiescent_Kernel5 := fun m g _ => Cert.Kernel5.Gen.frame m g
theorem frame_kernel5Ideal : Cert.quiescent_Kernel5Ideal := fun m g _ => Cert.Kernel5Ideal.Gen.frame m g
theorem frame_reference5Ideal : Cert.quiescent_Reference5Ideal := fun m g _ =>
  (θ_run Cert.Reference5Ideal.defs _ _).mono
    (fun r h => ⟨fun c => (h c).2.2, Idealize.ShloMosaic.sem_eq_zero_of_no_sems (by decide) r.2⟩)
    (Cert.Reference5Ideal.Value.run m g)

/-- The kernel's two results are the plain half step's. -/
theorem value5 : Cert.algebraic_Kernel5Ideal_Reference5Ideal := by
  pair_intro
  · run_from Cert.Kernel5Ideal.Gen.run_main m g
  · run_from Cert.Reference5Ideal.Value.run m' g'
    · rw [Cert.Kernel5Ideal.Blocks.final6]
      have h := Cert.Reference5Ideal.Read.val_main_v86_eq (F := Ideal) m' c
      simp only [hagree c] at h
      exact h
    · rw [Cert.Kernel5Ideal.Blocks.final7]
      have h := Cert.Reference5Ideal.Read.val_main_v88_eq (F := Ideal) m' c
      simp only [hagree c] at h
      exact h

end Cert.Proof
-- ==== Proof.CtxMergeOut.lean ====
module

public import proofs.«01_k».proof.Proof.Gen.Kernel6Ideal.Frame
public import proofs.«01_k».proof.Proof.Gen.Reference6Ideal.Read
public import proofs.«01_k».proof.Proof.MergeMath
public import Idealize.ShloMosaic.Lib.Pipeline.ValueKit
@[expose] public section
set_option maxRecDepth 16384

/-! On the context stream. What the body of the merge kernel leaves in its output block, and what the plain merge computes, element by
    element. -/

noncomputable section

namespace Cert.Kernel6Ideal.Out
open Idealize.ShloMosaic Idealize.ShloMosaic.TcCoe Idealize.SL.Sem
open Cert.Kernel6Ideal Cert.Kernel6Ideal.Gen

/-- The output block, at a token and a channel. -/
theorem out9 (x0 : Vec Ideal S512x1024 .f32) (x1 : Vec Ideal S512x1024 .bf16) (x2 x3 x4 : Vec Ideal S512x512 .bf16)
    (x5 : Vec Ideal S1x1x9x1024 .f32) (x6 : Vec Ideal S1x1024x3072 .bf16) (x7 : Vec Ideal S1x1536x1024 .bf16)
    (x8 : Vec Ideal S1x1024x1024 .bf16) (r : Fin 512) (l : Fin 1024) :
    out0_9 x0 x1 x2 x3 x4 x5 x6 x7 x8 (ix2 r l) =
      Merge.out (fun d => x0 (ix2 r d)) (fun d => x1 (ix2 r d)) (fun d => x2 (ix2 r d)) (fun d => x3 (ix2 r d))
        (fun d => x4 (ix2 r d)) (x5 (ix4 0 0 5 l)) (fun d k => x6 (ix3 0 d k)) (fun d k => x7 (ix3 0 d k))
        (fun d k => x8 (ix3 0 d k)) l := by
  unfold Merge.out Merge.mixed Merge.gate Merge.branch out0_9
  frame_out
  pointwise [k0_pay1, k0_pay2, k0_pay3, k0_pay4, k0_pay5]

end Cert.Kernel6Ideal.Out

namespace Cert.Reference6Ideal.Out
open Idealize.ShloMosaic Idealize.ShloMosaic.TcCoe Idealize.SL.Sem
open Cert.Reference6Ideal Cert.Reference6Ideal.Gen Cert.Reference6Ideal.Read

variable (x0 x1 : (⟨S16x256x1024, .f32⟩ : BufTy).Contents (Elt Ideal))
  (x2 x3 x4 : (⟨S16x256x512, .f32⟩ : BufTy).Contents (Elt Ideal))
  (x5 : (⟨S4x24x9x1024, .f32⟩ : BufTy).Contents (Elt Ideal))
  (x6 : (⟨S4x1024x8464, .f32⟩ : BufTy).Contents (Elt Ideal))
  (x7 : (⟨S4x1536x1024, .f32⟩ : BufTy).Contents (Elt Ideal))
  (x8 : (⟨S4x1024x1024, .f32⟩ : BufTy).Contents (Elt Ideal))

/-- The result, at a token of the list of all batches and a channel. -/
theorem res34 (R : Fin 4096) (l : Fin 1024) :
    val_main_v34 x0 x1 x2 x3 x4 x5 x6 x7 x8 (ix2 R l) =
      Merge.out (fun d => x0 (ix3 ⟨R.val / 256, by omega⟩ ⟨R.val % 256, by omega⟩ d))
        (fun d => x1 (ix3 ⟨R.val / 256, by omega⟩ ⟨R.val % 256, by omega⟩ d))
        (fun d => x2 (ix3 ⟨R.val / 256, by omega⟩ ⟨R.val % 256, by omega⟩ d))
        (fun d => x3 (ix3 ⟨R.val / 256, by omega⟩ ⟨R.val % 256, by omega⟩ d))
        (fun d => x4 (ix3 ⟨R.val / 256, by omega⟩ ⟨R.val % 256, by omega⟩ d))
        (x5 (ix4 0 16 5 l)) (fun d k => x6 (ix3 0 d ⟨5392 + k.val, by omega⟩))
        (fun d k => x7 (ix3 0 d k)) (fun d k => x8 (ix3 0 d k)) l := by
  unfold Merge.out Merge.mixed Merge.gate Merge.branch Ideal.logistic
  pointwise [val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_cst_0, val_main_v13,
    val_main_v12, val_main_cst, val_main_v11, val_main_v10, val_main_v9, val_main_v8, val_main_v7, val_main_v6,
    val_main_v5, val_main_v4, val_main_v3, val_main_v2, val_main_v1, val_main_v0]

end Cert.Reference6Ideal.Out
-- ==== Proof.CtxMergeBlocks.lean ====
module

public import proofs.«01_k».proof.Proof.CtxMergeOut
public import Idealize.ShloMosaic.Lib.Claim
@[expose] public section
set_option maxRecDepth 16384

/-! On the context stream. The merge kernel's result array is the plain merge's. -/

noncomputable section
namespace Cert.Kernel6Ideal.Blocks
open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- Which block of its array each window holds at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 16, 0, 0] ∧ win0_6.index t = ![0, 0, 0] ∧ win0_7.index t = ![0, 0, 0]
    ∧ win0_8.index t = ![0, 0, 0] ∧ win0_9.index t = ![t.val, 0] :=
  (by decide +kernel : ∀ t : Fin grid0.N, _)

/-- Row `r` of the block of point `t`, in the array of all tokens. -/
abbrev row (t : Fin cfg0.N) (r : Fin 512) : Fin 4096 :=
  ⟨t.val * 512 + r.val, by have : t.val < 8 := t.isLt; omega⟩

theorem blk0 (c : Dev nD) (t : Fin cfg0.N) (r : Fin 512) (d : Fin 1024) : iblk m c 0 t (ix2 r d) =
    m ((c : Thread nD τ).loc main_arg0) (ix3 ⟨(row t r).val / 256, by have := (row t r).isLt; omega⟩
      ⟨(row t r).val % 256, by omega⟩ d) := by
  blk_simp [iblk]
  entry_read
  pointwise
  blk_point [idx t]

theorem blk1 (c : Dev nD) (t : Fin cfg0.N) (r : Fin 512) (d : Fin 1024) : iblk m c 1 t (ix2 r d) =
    m ((c : Thread nD τ).loc main_arg1) (ix3 ⟨(row t r).val / 256, by have := (row t r).isLt; omega⟩
      ⟨(row t r).val % 256, by omega⟩ d) := by
  blk_simp [iblk]
  entry_read
  pointwise
  blk_point [idx t]

theorem blk2 (c : Dev nD) (t : Fin cfg0.N) (r : Fin 512) (d : Fin 512) : iblk m c 2 t (ix2 r d) =
    m ((c : Thread nD τ).loc main_arg2) (ix3 ⟨(row t r).val / 256, by have := (row t r).isLt; omega⟩
      ⟨(row t r).val % 256, by omega⟩ d) := by
  blk_simp [iblk]
  entry_read
  pointwise
  blk_point [idx t]

theorem blk3 (c : Dev nD) (t : Fin cfg0.N) (r : Fin 512) (d : Fin 512) : iblk m c 3 t (ix2 r d) =
    m ((c : Thread nD τ).loc main_arg3) (ix3 ⟨(row t r).val / 256, by have := (row t r).isLt; omega⟩
      ⟨(row t r).val % 256, by omega⟩ d) := by
  blk_simp [iblk]
  entry_read
  pointwise
  blk_point [idx t]

theorem blk4 (c : Dev nD) (t : Fin cfg0.N) (r : Fin 512) (d : Fin 512) : iblk m c 4 t (ix2 r d) =
    m ((c : Thread nD τ).loc main_arg4) (ix3 ⟨(row t r).val / 256, by have := (row t r).isLt; omega⟩
      ⟨(row t r).val % 256, by omega⟩ d) := by
  blk_simp [iblk]
  entry_read
  pointwise
  blk_point [idx t]

theorem blk5 (c : Dev nD) (t : Fin cfg0.N) (k : Fin 9) (d : Fin 1024) : iblk m c 5 t (ix4 0 0 k d) =
    m ((c : Thread nD τ).loc main_arg5) (ix4 0 16 k d) := by
  blk_point [iblk, V, idx t]

theorem blk6 (c : Dev nD) (t : Fin cfg0.N) (d : Fin 1024) (k : Fin 3072) : iblk m c 6 t (ix3 0 d k) =
    m ((c : Thread nD τ).loc main_arg6) (ix3 0 d ⟨5392 + k.val, by omega⟩) := by
  blk_simp [iblk]
  entry_read
  pointwise
  blk_point [idx t]

theorem blk7 (c : Dev nD) (t : Fin cfg0.N) (d : Fin 1536) (k : Fin 1024) : iblk m c 7 t (ix3 0 d k) =
    m ((c : Thread nD τ).loc main_arg7) (ix3 0 d k) := by
  blk_simp [iblk]
  entry_read
  pointwise
  blk_point [idx t]

theorem blk8 (c : Dev nD) (t : Fin cfg0.N) (d : Fin 1024) (k : Fin 1024) : iblk m c 8 t (ix3 0 d k) =
    m ((c : Thread nD τ).loc main_arg8) (ix3 0 d k) := by
  blk_simp [iblk]
  entry_read
  pointwise
  blk_point [idx t]

theorem emb9 (t : Fin cfg0.N) (r : Fin 512) (l : Fin 1024) :
    ((View.whole main_v13).slice (win0_9.rect t)).emb (ix2 r l) = ix2 (row t r) l := by
  blk_ext [idx t]

/-- The result array. -/
theorem final9 (c : Dev nD) : (dats m 0 c).arrAt 9 (cfgs 0).N =
    Cert.Reference6Ideal.Read.val_main_v34 (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) := by
  refine (dats m 0 c).arrAt_eq_of_covers 9 _ (by decide +kernel) fun t _ y => ?_
  blk_simp
  rw [after0_9]
  idx_vars y
  rw [emb9, Cert.Reference6Ideal.Out.res34, Cert.Kernel6Ideal.Out.out9]
  simp only [blk0, blk1, blk2, blk3, blk4, blk5, blk6, blk7, blk8]

end Cert.Kernel6Ideal.Blocks
-- ==== Proof.CtxMergeClaim.lean ====
module

public import proofs.«01_k».proof.Defs
public import proofs.«01_k».proof.Proof.Gen.Kernel6.Frame
public import proofs.«01_k».proof.Proof.Gen.Reference6Ideal.Run
public import proofs.«01_k».proof.Proof.CtxMergeBlocks
@[expose] public section
set_option maxRecDepth 16384

/-! The claims, on the context stream, about the merge of the branches. -/

noncomputable section
namespace Cert.Proof
open Idealize.ShloMosaic Idealize.SL.Sem

instance factsKernel6 : Cert.Kernel6.Facts := Cert.Kernel6.Gen.facts
instance factsKernel6Ideal : Cert.Kernel6Ideal.Facts := Cert.Kernel6Ideal.Gen.facts
instance factsReference6Ideal : Cert.Reference6Ideal.Facts := Cert.Reference6Ideal.Gen.facts

theorem frame_kernel6 : Cert.quiescent_Kernel6 := fun m g _ => Cert.Kernel6.Gen.frame m g
theorem frame_kernel6Ideal : Cert.quiescent_Kernel6Ideal := fun m g _ => Cert.Kernel6Ideal.Gen.frame m g
theorem frame_reference6Ideal : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run m g)

/-- The kernel's result is the plain merge's. -/
theorem value6 : Cert.algebraic_Kernel6Ideal_Reference6Ideal := by
  pair_intro
  · run_from Cert.Kernel6Ideal.Gen.run_main m g
  · run_from Cert.Reference6Ideal.Value.run m' g'
    rw [Cert.Kernel6Ideal.Blocks.final9]
    exact Cert.Reference6Ideal.Read.val_main_v34_eq (F := Ideal) _ _ _ _ _ _ _ _ _

end Cert.Proof
-- ==== Proof.CtxLastOut.lean ====
module

public import proofs.«01_k».proof.Proof.Gen.Kernel7Ideal.Frame
public import proofs.«01_k».proof.Proof.FfnMath
public import Idealize.ShloMosaic.Lib.Pipeline.ValueKit
@[expose] public section
set_option maxRecDepth 16384

/-! On the context stream. What the body of the second feed-forward call leaves in its output block, element by element. -/

noncomputable section
namespace Cert.Kernel7Ideal.Out
open Idealize.ShloMosaic Idealize.ShloMosaic.TcCoe Idealize.SL.Sem
open Cert.Kernel7Ideal Cert.Kernel7Ideal.Gen

/-- The normalised and modulated block, at a token and a channel. -/
theorem hs (x : Vec Ideal S1024x1024 .f32) (g sc sh : Vec Ideal S1x1x1x1024 .f32) (r d : Fin 1024) :
    k0_pay3 x g sc sh (ix2 r d) =
      Ffn.modNorm (fun k => x (ix2 r k)) (fun k => g (ix4 0 0 0 k)) (fun k => sc (ix4 0 0 0 k))
        (fun k => sh (ix4 0 0 0 k)) d := by
  unfold Ffn.modNorm
  pointwise [k0_pay3, k0_pay2]

/-- The output block, at a token and a channel. -/
theorem out5 (x0 : Vec Ideal S1024x1024 .f32) (x1 : Vec Ideal S1x1x9x1024 .f32)
    (x2 : Vec Ideal S1x1x1x1024 .f32) (x3 : Vec Ideal S1x1x1024x5632 .bf16)
    (x4 : Vec Ideal S1x1x2816x1024 .bf16) (r l : Fin 1024) :
    out0_5 x0 x1 x2 x3 x4 (ix2 r l) =
      Ffn.step (fun d => x0 (ix2 r d)) (fun s => Ideal.ofBits .f32 0x3F000000#32 * x1 (ix4 0 0 8 l) * s)
        (Ffn.modNorm (fun k => x0 (ix2 r k)) (fun k => x2 (ix4 0 0 0 k)) (fun k => x1 (ix4 0 0 7 k))
        (fun k => x1 (ix4 0 0 6 k))) (fun d k => x3 (ix4 0 0 d k)) (fun k l => x4 (ix4 0 0 k l)) l := by
  unfold Ffn.step
  rw [Ffn.sum_tiles]
  unfold_out out0_5
  frame_out
  have hh : ∀ d, k0_pay3 x0 x2 (View.ld x1 r0_2) (View.ld x1 r0_3) (ix2 r d) =
      Ffn.modNorm (fun k => x0 (ix2 r k)) (fun k => x2 (ix4 0 0 0 k)) (fun k => x1 (ix4 0 0 7 k))
        (fun k => x1 (ix4 0 0 6 k)) d := fun d => by
    rw [hs]
    pointwise
  generalize Ffn.modNorm (fun k => x0 (ix2 r k)) (fun k => x2 (ix4 0 0 0 k)) (fun k => x1 (ix4 0 0 7 k))
        (fun k => x1 (ix4 0 0 6 k)) = n at hh ⊢
  unfold k0_pay4
  generalize k0_pay3 x0 x2 (View.ld x1 r0_2) (View.ld x1 r0_3) = H at hh ⊢
  obtain rfl : (fun d => H (ix2 r d)) = n := funext hh
  clear hh
  unfold Ffn.act Ffn.gate Ffn.up
  pointwise [k0_pay1, k0_pay2, k0_pay5, k0_pay6, k0_pay7, k0_pay8, k0_pay9, k0_pay10, k0_pay11, k0_pay12, k0_pay13,
    k0_pay14, k0_pay15, k0_pay16, k0_pay17]
  simp only [← Nat.add_assoc, Nat.reduceAdd]

end Cert.Kernel7Ideal.Out
-- ==== Proof.CtxLastRef.lean ====
module

public import proofs.«01_k».proof.Proof.Gen.Reference7Ideal.Read
public import proofs.«01_k».proof.Proof.FfnMath
@[expose] public section
set_option maxRecDepth 16384

/-! On the context stream. What the plain second half step computes, element by element. -/

noncomputable section
namespace Cert.Reference7Ideal.Out
open Idealize.ShloMosaic Idealize.ShloMosaic.TcCoe Idealize.SL.Sem
open Cert.Reference7Ideal Cert.Reference7Ideal.Gen Cert.Reference7Ideal.Read

variable (x0 : (⟨S16x256x1024, .f32⟩ : BufTy).Contents (Elt Ideal))
  (x1 : (⟨S4x24x9x1024, .f32⟩ : BufTy).Contents (Elt Ideal))
  (x2 : (⟨S4x3x1024, .f32⟩ : BufTy).Contents (Elt Ideal))
  (x3 : (⟨S4x2x1024x5632, .f32⟩ : BufTy).Contents (Elt Ideal))
  (x4 : (⟨S4x2x2816x1024, .f32⟩ : BufTy).Contents (Elt Ideal))

/-- The normalised and modulated stream, at a token and a channel. -/
theorem hs (b : Fin 16) (t : Fin 256) (d : Fin 1024) :
    val_main_v46 x0 x1 x2 (ix3 b t d) =
      Ffn.modNorm (fun k => x0 (ix3 b t k)) (fun k => x2 (ix3 0 2 k))
        (fun k => x1 (ix4 0 16 7 k)) (fun k => x1 (ix4 0 16 6 k)) d := by
  unfold Ffn.modNorm
  pointwise [val_main_v46, val_main_v45, val_main_v44, val_main_v43, val_main_v42, val_main_v41, val_main_v40,
    val_main_v39, val_main_v38, val_main_v37, val_main_v36, val_main_v35, val_main_v34, val_main_v33,
    val_main_v32, val_main_v31, val_main_v30, val_main_v29, val_main_v28, val_main_v27, val_main_v26,
    val_main_v25, val_main_v24, val_main_cst_2, val_main_cst_1, val_main_cst_0, val_main_cst, val_main_v19,
    val_main_v18, val_main_v15, val_main_v14, val_main_v13, val_main_v12]

/-- The gated hidden layer. -/
theorem act (b : Fin 16) (t : Fin 256) (k : Fin 2816) :
    val_main_v57 x0 x1 x2 x3 (ix3 b t k) =
      Ffn.act (fun d => val_main_v46 x0 x1 x2 (ix3 b t d)) (fun d k => x3 (ix4 0 1 d k)) k := by
  unfold Ffn.act Ffn.gate Ffn.up Ideal.logistic
  pointwise [val_main_v57, val_main_v56, val_main_call0_v5, val_main_call0_v4, val_main_call0_cst_0,
    val_main_call0_v3, val_main_call0_v2, val_main_call0_cst, val_main_call0_v1, val_main_call0_v0, val_main_v55,
    val_main_v54, val_main_v53, val_main_v50, val_main_v49, val_main_v21, val_main_v20]

/-- The stream after the half step. -/
theorem xl (b : Fin 16) (t : Fin 256) (l : Fin 1024) :
    val_main_v62 x0 x1 x2 x3 x4 (ix3 b t l) =
      Ffn.step (fun d => x0 (ix3 b t d))
        (fun s => Ideal.ofBits .f32 0x3F000000#32 * x1 (ix4 0 16 8 l) * s)
        (Ffn.modNorm (fun k => x0 (ix3 b t k)) (fun k => x2 (ix3 0 2 k))
        (fun k => x1 (ix4 0 16 7 k)) (fun k => x1 (ix4 0 16 6 k)))
        (fun d k => x3 (ix4 0 1 d k)) (fun k l => x4 (ix4 0 1 k l)) l := by
  unfold Ffn.step
  have hn := funext (hs x0 x1 x2 b t)
  rw [← hn]
  simp only [← act]
  pointwise [val_main_v62, val_main_v61, val_main_v60, val_main_v59, val_main_v58, val_main_v48, val_main_v47,
    val_main_cst_3, val_main_v52, val_main_v51, val_main_v23, val_main_v22, val_main_v17, val_main_v16]

/-- The result lists the tokens of all the batches one after another. -/
theorem res63 (R : Fin 4096) (l : Fin 1024) :
    val_main_v63 x0 x1 x2 x3 x4 (ix2 R l) =
      val_main_v62 x0 x1 x2 x3 x4 (ix3 ⟨R.val / 256, by omega⟩ ⟨R.val % 256, by omega⟩ l) := by
  pointwise [val_main_v63]

end Cert.Reference7Ideal.Out
-- ==== Proof.CtxLastBlocks.lean ====
module

public import proofs.«01_k».proof.Proof.CtxLastOut
public import proofs.«01_k».proof.Proof.CtxLastRef
public import Idealize.ShloMosaic.Lib.Claim
@[expose] public section
set_option maxRecDepth 16384

/-! On the context stream. The second feed-forward call's result array is the plain half step's. -/

noncomputable section
namespace Cert.Kernel7Ideal.Blocks
open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- Which block of its array each window holds at a grid point. -/
theorem idx : ∀ t : Fin cfg0.N, win0_0.index t = ![t.val, 0] ∧ win0_1.index t = ![0, 16, 0, 0]
    ∧ win0_2.index t = ![0, 2, 0, 0] ∧ win0_3.index t = ![0, 1, 0, 0] ∧ win0_4.index t = ![0, 1, 0, 0]
    ∧ win0_5.index t = ![t.val, 0] :=
  (by decide +kernel : ∀ t : Fin grid0.N, _)

/-- Row `r` of the block of point `t`, in the array of all tokens. -/
abbrev row (t : Fin cfg0.N) (r : Fin 1024) : Fin 4096 :=
  ⟨t.val * 1024 + r.val, by have : t.val < 4 := t.isLt; omega⟩

theorem blk0 (c : Dev nD) (t : Fin cfg0.N) (r d : Fin 1024) : iblk m c 0 t (ix2 r d) =
    m ((c : Thread nD τ).loc main_arg0) (ix3 ⟨(row t r).val / 256, by have := (row t r).isLt; omega⟩
      ⟨(row t r).val % 256, by omega⟩ d) := by
  blk_simp [iblk]
  entry_read
  pointwise
  blk_point [idx t]

theorem blk1 (c : Dev nD) (t : Fin cfg0.N) (k : Fin 9) (d : Fin 1024) : iblk m c 1 t (ix4 0 0 k d) =
    m ((c : Thread nD τ).loc main_arg1) (ix4 0 16 k d) := by
  blk_point [iblk, V, idx t]

theorem blk2 (c : Dev nD) (t : Fin cfg0.N) (d : Fin 1024) : iblk m c 2 t (ix4 0 0 0 d) =
    m ((c : Thread nD τ).loc main_arg2) (ix3 0 2 d) := by
  blk_simp [iblk]
  entry_read
  pointwise
  blk_point [idx t]

theorem blk3 (c : Dev nD) (t : Fin cfg0.N) (d : Fin 1024) (k : Fin 5632) : iblk m c 3 t (ix4 0 0 d k) =
    m ((c : Thread nD τ).loc main_arg3) (ix4 0 1 d k) := by
  blk_simp [iblk]
  entry_read
  pointwise
  blk_point [idx t]

theorem blk4 (c : Dev nD) (t : Fin cfg0.N) (k : Fin 2816) (d : Fin 1024) : iblk m c 4 t (ix4 0 0 k d) =
    m ((c : Thread nD τ).loc main_arg4) (ix4 0 1 k d) := by
  blk_simp [iblk]
  entry_read
  pointwise
  blk_point [idx t]

theorem emb5 (t : Fin cfg0.N) (r l : Fin 1024) :
    ((View.whole main_v4).slice (win0_5.rect t)).emb (ix2 r l) = ix2 (row t r) l := by
  blk_ext [idx t]

/-- The result array. -/
theorem final5 (c : Dev nD) : (dats m 0 c).arrAt 5 (cfgs 0).N =
    Cert.Reference7Ideal.Read.val_main_v63 (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  idx_vars y
  rw [emb5, Cert.Reference7Ideal.Out.res63, Cert.Reference7Ideal.Out.xl, Cert.Kernel7Ideal.Out.out5]
  simp only [blk0, blk1, blk2, blk3, blk4]

end Cert.Kernel7Ideal.Blocks
-- ==== Proof.CtxLastClaim.lean ====
module

public import proofs.«01_k».proof.Defs
public import proofs.«01_k».proof.Proof.Gen.Kernel7.Frame
public import proofs.«01_k».proof.Proof.Gen.Reference7Ideal.Run
public import proofs.«01_k».proof.Proof.CtxLastBlocks
@[expose] public section
set_option maxRecDepth 16384

/-! The claims, on the context stream, about the second feed-forward half step. -/

noncomputable section
namespace Cert.Proof
open Idealize.ShloMosaic Idealize.SL.Sem

instance factsKernel7 : Cert.Kernel7.Facts := Cert.Kernel7.Gen.facts
instance factsKernel7Ideal : Cert.Kernel7Ideal.Facts := Cert.Kernel7Ideal.Gen.facts
instance factsReference7Ideal : Cert.Reference7Ideal.Facts := Cert.Reference7Ideal.Gen.facts

theorem frame_kernel7 : Cert.quiescent_Kernel7 := fun m g _ => Cert.Kernel7.Gen.frame m g
theorem frame_kernel7Ideal : Cert.quiescent_Kernel7Ideal := fun m g _ => Cert.Kernel7Ideal.Gen.frame m g
theorem frame_reference7Ideal : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run m g)

/-- The kernel's result is the plain half step's. -/
theorem value7 : Cert.algebraic_Kernel7Ideal_Reference7Ideal := by
  pair_intro
  · run_from Cert.Kernel7Ideal.Gen.run_main m g
  · run_from Cert.Reference7Ideal.Value.run m' g'
    rw [Cert.Kernel7Ideal.Blocks.final5]
    have h := Cert.Reference7Ideal.Read.val_main_v63_eq (F := Ideal) m' c
    simp only [hagree c] at h
    exact h

end Cert.Proof
-- ==== Proof.AdaBlocks.lean ====
module

public import proofs.«01_k».proof.Proof.Gen.Kernel8Ideal.Frame
public import proofs.«01_k».proof.Proof.Gen.Reference8Ideal.Read
public import Idealize.ShloMosaic.Lib.Pipeline.ValueKit
@[expose] public section
set_option maxRecDepth 16384

/-! The modulation call's result array is the plain modulation of every layer. -/

noncomputable section

namespace Ada
open Idealize.ShloMosaic

/-- One modulation value: a conditioning row, gated by itself, against a column of weights, plus the bias. -/
def mod (c : Fin 1024 → EReal) (w : Fin 1024 → EReal) (b : EReal) : EReal :=
  ∑ d : Fin 1024, c d * Ideal.logistic (c d) * w d + b

end Ada

namespace Cert.Reference8Ideal.Out
open Idealize.ShloMosaic Idealize.ShloMosaic.TcCoe Idealize.SL.Sem
open Cert.Reference8Ideal Cert.Reference8Ideal.Gen Cert.Reference8Ideal.Read

variable (x0 : (⟨S24x1024, .f32⟩ : BufTy).Contents (Elt Ideal))
  (x1 : (⟨S4x1024x9216, .f32⟩ : BufTy).Contents (Elt Ideal))
  (x2 : (⟨S4x9216, .f32⟩ : BufTy).Contents (Elt Ideal))

/-- The plain modulation of a layer, for one of its nine parts, a row and a channel. -/
theorem mod (l : Fin 4) (j : Fin 9) (r : Fin 24) (n : Fin 1024) :
    val_main_v7 x0 x1 x2 (ix4 l j r n) =
      Ada.mod (fun d => x0 (ix2 r d)) (fun d => x1 (ix3 l d ⟨j.val * 1024 + n.val, by omega⟩))
        (x2 (ix2 l ⟨j.val * 1024 + n.val, by omega⟩)) := by
  unfold Ada.mod Ideal.logistic
  pointwise [val_main_v7, val_main_v6, val_main_v5, val_main_v4, val_main_v3, val_main_v2, val_main_v1, val_main_v0,
    val_main_call0_v5, val_main_call0_v4, val_main_call0_cst_0, val_main_call0_v3, val_main_call0_v2,
    val_main_call0_cst, val_main_call0_v1, val_main_call0_v0]
  exact congrArg (· + _) (Finset.sum_congr rfl fun _ _ => mul_comm _ _)

end Cert.Reference8Ideal.Out

namespace Cert.Kernel8Ideal.Blocks
open Idealize.ShloMosaic Idealize.ShloMosaic.TcCoe Idealize.SL.Sem
open Idealize.ShloMosaic.Pipeline (Dat)
open Cert.Kernel8Ideal Cert.Kernel8Ideal.Gen

/-- The output block, at a row and a channel. -/
theorem out3 (x0 : Vec Ideal S24x1024 .f32) (x1 : Vec Ideal S1x1024x1024 .f32) (x2 : Vec Ideal S1x1x1x1024 .f32)
    (r : Fin 24) (n : Fin 1024) :
    out0_3 x0 x1 x2 (ix4 0 0 r n) =
      Ada.mod (fun d => x0 (ix2 r d)) (fun d => x1 (ix3 0 d n)) (x2 (ix4 0 0 0 n)) := by
  unfold Ada.mod
  unfold out0_3
  frame_out
  pointwise [k0_pay1]

variable (m : (ℓ : Loc nD τ sig) → Buf (Elt Ideal) ℓ)

/-- Which block of its array each window holds at a grid point. -/
theorem idx : ∀ t : Fin cfg0.N, win0_0.index t = ![0, 0] ∧ win0_1.index t = ![t.val / 9, 0, t.val % 9]
    ∧ win0_2.index t = ![t.val / 9, t.val % 9, 0, 0] ∧ win0_3.index t = ![t.val / 9, t.val % 9, 0, 0] :=
  (by decide +kernel : ∀ t : Fin grid0.N, _)

/-- The layer of a grid point. -/
abbrev lay (t : Fin cfg0.N) : Fin 4 := ⟨t.val / 9, by have : t.val < 36 := t.isLt; omega⟩

/-- The part of the modulation a grid point computes. -/
abbrev part (t : Fin cfg0.N) : Fin 9 := ⟨t.val % 9, by omega⟩

theorem blk0 (c : Dev nD) (t : Fin cfg0.N) (r : Fin 24) (d : Fin 1024) : iblk m c 0 t (ix2 r d) =
    m ((c : Thread nD τ).loc main_arg0) (ix2 r d) := by
  blk_point [iblk, V, idx t]

theorem blk1 (c : Dev nD) (t : Fin cfg0.N) (d n : Fin 1024) : iblk m c 1 t (ix3 0 d n) =
    m ((c : Thread nD τ).loc main_arg1) (ix3 (lay t) d ⟨(part t).val * 1024 + n.val, by
      have := (part t).isLt; omega⟩) := by
  blk_point [iblk, V, idx t]

theorem blk2 (c : Dev nD) (t : Fin cfg0.N) (n : Fin 1024) : iblk m c 2 t (ix4 0 0 0 n) =
    m ((c : Thread nD τ).loc main_arg2) (ix2 (lay t) ⟨(part t).val * 1024 + n.val, by
      have := (part t).isLt; omega⟩) := by
  blk_simp [iblk]
  entry_read
  pointwise
  blk_point [idx t]

theorem emb3 (t : Fin cfg0.N) (r : Fin 24) (n : Fin 1024) :
    ((View.whole main_v1).slice (win0_3.rect t)).emb (ix4 0 0 r n) = ix4 (lay t) (part t) r n := by
  blk_ext [idx t]

/-- The result array. -/
theorem final3 (c : Dev nD) : (dats m 0 c).arrAt 3 (cfgs 0).N =
    Cert.Reference8Ideal.Read.val_main_v7 (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  idx_vars y
  obtain rfl : y0 = 0 := Subsingleton.elim _ _
  obtain rfl : y1 = 0 := Subsingleton.elim _ _
  rw [emb3, Cert.Reference8Ideal.Out.mod, out3]
  simp only [blk0, blk1, blk2]

end Cert.Kernel8Ideal.Blocks
-- ==== Proof.AdaClaim.lean ====
module

public import proofs.«01_k».proof.Defs
public import proofs.«01_k».proof.Proof.Gen.Kernel8.Frame
public import proofs.«01_k».proof.Proof.Gen.Reference8Ideal.Run
public import proofs.«01_k».proof.Proof.AdaBlocks
@[expose] public section
set_option maxRecDepth 16384

/-! The claims about the modulation of every layer. -/

noncomputable section
namespace Cert.Proof
open Idealize.ShloMosaic Idealize.SL.Sem

instance factsKernel8 : Cert.Kernel8.Facts := Cert.Kernel8.Gen.facts
instance factsKernel8Ideal : Cert.Kernel8Ideal.Facts := Cert.Kernel8Ideal.Gen.facts
instance factsReference8Ideal : Cert.Reference8Ideal.Facts := Cert.Reference8Ideal.Gen.facts

theorem frame_kernel8 : Cert.quiescent_Kernel8 := fun m g _ => Cert.Kernel8.Gen.frame m g
theorem frame_kernel8Ideal : Cert.quiescent_Kernel8Ideal := fun m g _ => Cert.Kernel8Ideal.Gen.frame m g
theorem frame_reference8Ideal : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run m g)

/-- The kernel's result is the plain modulation. -/
theorem value8 : Cert.algebraic_Kernel8Ideal_Reference8Ideal := by
  pair_intro
  · run_from Cert.Kernel8Ideal.Gen.run_main m g
  · run_from Cert.Reference8Ideal.Value.run m' g'
    rw [Cert.Kernel8Ideal.Blocks.final3]
    have h := Cert.Reference8Ideal.Read.val_main_v7_eq (F := Ideal)
      (m' ((c.tc : Thread _ _).loc Cert.Reference8Ideal.main_arg0)) (m' ((c.tc : Thread _ _).loc Cert.Reference8Ideal.main_arg1))
      (m' ((c.tc : Thread _ _).loc Cert.Reference8Ideal.main_arg2))
    simp only [hagree c] at h
    exact h

end Cert.Proof
-- ==== Proof.lean ====
module

public import proofs.«01_k».proof.Defs
public import proofs.«01_k».proof.Proof.AttnValClaim
public import proofs.«01_k».proof.Proof.AttnClaim
public import proofs.«01_k».proof.Proof.FfnClaim
public import proofs.«01_k».proof.Proof.MergeClaim
public import proofs.«01_k».proof.Proof.LastClaim
public import proofs.«01_k».proof.Proof.CtxFfnClaim
public import proofs.«01_k».proof.Proof.CtxMergeClaim
public import proofs.«01_k».proof.Proof.CtxLastClaim
public import proofs.«01_k».proof.Proof.AdaClaim
@[expose] public section

noncomputable section
namespace Cert.Proof
open Idealize.ShloMosaic Idealize.SL.Sem

/-- Every claim of this certificate. -/
theorem claim : Cert.Claim :=
  ⟨factsKernel, factsKernelIdeal, factsReferenceIdeal,
    factsKernel2, factsKernel2Ideal, factsReference2Ideal,
    factsKernel3, factsKernel3Ideal, factsReference3Ideal,
    factsKernel4, factsKernel4Ideal, factsReference4Ideal,
    factsKernel5, factsKernel5Ideal, factsReference5Ideal,
    factsKernel6, factsKernel6Ideal, factsReference6Ideal,
    factsKernel7, factsKernel7Ideal, factsReference7Ideal,
    factsKernel8, factsKernel8Ideal, factsReference8Ideal,
    factsPre_finite, factsOn_context_rows,
    frame_kernel, frame_kernelIdeal, frame_kernelIdeal_finite, frame_referenceIdeal, frame_referenceIdeal_finite,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    trivial, value, trivial, value2, trivial, value3, trivial, value4, trivial, value5, trivial, value6, trivial, value7, trivial, value8⟩

end Cert.Proof

end
